-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v305) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x8 : Shape := ⟨2, ![16384, 8]⟩
abbrev S8x5 : Shape := ⟨2, ![8, 5]⟩
abbrev S100001x100 : Shape := ⟨2, ![100001, 100]⟩
abbrev S1001x100 : Shape := ⟨2, ![1001, 100]⟩
abbrev S8x100 : Shape := ⟨2, ![8, 100]⟩
abbrev S100001x1 : Shape := ⟨2, ![100001, 1]⟩
abbrev S1001x1 : Shape := ⟨2, ![1001, 1]⟩
abbrev S_ : Shape := ⟨0, ![]⟩
abbrev S1000x100 : Shape := ⟨2, ![1000, 100]⟩

class Facts : Prop where
  bcast_S_S16384x8 : S_.BroadcastsInDim S16384x8 (![] : Fin 0 → Fin S16384x8.rank)
  bcast_S_S8x5 : S_.BroadcastsInDim S8x5 (![] : Fin 0 → Fin S8x5.rank)
  slices_S100001x100_S1000x100_0_0 : S100001x100.Slices ![0, 0] S1000x100
  bcast_S_S1000x100 : S_.BroadcastsInDim S1000x100 (![] : Fin 0 → Fin S1000x100.rank)
  slices_S1001x100_S1000x100_0_0 : S1001x100.Slices ![0, 0] S1000x100
  bcast_S_S8x100 : S_.BroadcastsInDim S8x100 (![] : Fin 0 → Fin S8x100.rank)

variable [Facts]

def fn_part1 {F : FTy → Type} [FloatOps F] (main_arg5 : FVec F S1001x100 .f32) (main_arg6 : FVec F S1001x100 .f32) (main_arg7 : FVec F S100001x100 .f32) (main_arg8 : FVec F S8x100 .f32) (main_v4 : IVec S16384x8 1) (main_v9 : IVec S8x5 1) (main_v13 : IVec S1000x100 1) (main_v17 : IVec S1000x100 1) : IVec S16384x8 1 × IVec S8x5 1 × IVec S1000x100 1 × IVec S1000x100 1 × IVec S1000x100 1 × IVec S1000x100 1 × IVec S1000x100 1 × IVec S8x100 1 :=
  let main_v18 : FVec F S1000x100 .f32 := (extractStridedSlice S1000x100 ![0, 0] · slices_S1001x100_S1000x100_0_0) main_arg5
  let main_v19 : FVec F S1000x100 .f32 := Host.absf main_v18
  let main_cst_4 : FVec F S_ .f32 := constant S_ .f32 0x7F800000#32
  let main_v20 : FVec F S1000x100 .f32 := broadcastInDim S1000x100 ![] bcast_S_S1000x100 main_cst_4
  let main_v21 : IVec S1000x100 1 := cmpf .olt main_v19 main_v20
  let main_v22 : FVec F S1000x100 .f32 := (extractStridedSlice S1000x100 ![0, 0] · slices_S1001x100_S1000x100_0_0) main_arg6
  let main_v23 : FVec F S1000x100 .f32 := Host.absf main_v22
  let main_cst_5 : FVec F S_ .f32 := constant S_ .f32 0x7F800000#32
  let main_v24 : FVec F S1000x100 .f32 := broadcastInDim S1000x100 ![] bcast_S_S1000x100 main_cst_5
  let main_v25 : IVec S1000x100 1 := cmpf .olt main_v23 main_v24
  let main_v26 : FVec F S1000x100 .f32 := (extractStridedSlice S1000x100 ![0, 0] · slices_S100001x100_S1000x100_0_0) main_arg7
  let main_v27 : FVec F S1000x100 .f32 := Host.absf main_v26
  let main_cst_6 : FVec F S_ .f32 := constant S_ .f32 0x7F800000#32
  let main_v28 : FVec F S1000x100 .f32 := broadcastInDim S1000x100 ![] bcast_S_S1000x100 main_cst_6
  let main_v29 : IVec S1000x100 1 := cmpf .olt main_v27 main_v28
  let main_v30 : FVec F S8x100 .f32 := Host.absf main_arg8
  let main_cst_7 : FVec F S_ .f32 := constant S_ .f32 0x7F800000#32
  let main_v31 : FVec F S8x100 .f32 := broadcastInDim S8x100 ![] bcast_S_S8x100 main_cst_7
  let main_v32 : IVec S8x100 1 := cmpf .olt main_v30 main_v31
  (main_v4, main_v9, main_v13, main_v17, main_v21, main_v25, main_v29, main_v32)

def fn {F : FTy → Type} [FloatOps F] (main_arg0 : IVec S16384x8 32) (main_arg1 : IVec S8x5 32) (main_arg2 : FVec F S100001x100 .f32) (main_arg3 : FVec F S100001x100 .f32) (main_arg4 : FVec F S100001x100 .f32) (main_arg5 : FVec F S1001x100 .f32) (main_arg6 : FVec F S1001x100 .f32) (main_arg7 : FVec F S100001x100 .f32) (main_arg8 : FVec F S8x100 .f32) (main_arg9 : FVec F S100001x1 .f32) (main_arg10 : FVec F S100001x1 .f32) (main_arg11 : FVec F S100001x1 .f32) (main_arg12 : FVec F S1001x1 .f32) (main_arg13 : FVec F S1001x1 .f32) (main_arg14 : FVec F S100001x1 .f32) (main_arg15 : FVec F S100001x1 .f32) (main_arg16 : FVec F S100001x1 .f32) : IVec S16384x8 1 × IVec S8x5 1 × IVec S1000x100 1 × IVec S1000x100 1 × IVec S1000x100 1 × IVec S1000x100 1 × IVec S1000x100 1 × IVec S8x100 1 :=
  let main_c : IVec S_ 32 := constantI S_ 32 0#32
  let main_v0 : IVec S16384x8 32 := broadcastInDim S16384x8 ![] bcast_S_S16384x8 main_c
  let main_v1 : IVec S16384x8 1 := cmpi .sge main_arg0 main_v0
  let main_c_0 : IVec S_ 32 := constantI S_ 32 1000#32
  let main_v2 : IVec S16384x8 32 := broadcastInDim S16384x8 ![] bcast_S_S16384x8 main_c_0
  let main_v3 : IVec S16384x8 1 := cmpi .slt main_arg0 main_v2
  let main_v4 : IVec S16384x8 1 := andi main_v1 main_v3
  let main_c_1 : IVec S_ 32 := constantI S_ 32 0#32
  let main_v5 : IVec S8x5 32 := broadcastInDim S8x5 ![] bcast_S_S8x5 main_c_1
  let main_v6 : IVec S8x5 1 := cmpi .sge main_arg1 main_v5
  let main_c_2 : IVec S_ 32 := constantI S_ 32 1000#32
  let main_v7 : IVec S8x5 32 := broadcastInDim S8x5 ![] bcast_S_S8x5 main_c_2
  let main_v8 : IVec S8x5 1 := cmpi .slt main_arg1 main_v7
  let main_v9 : IVec S8x5 1 := andi main_v6 main_v8
  let main_v10 : FVec F S1000x100 .f32 := (extractStridedSlice S1000x100 ![0, 0] · slices_S100001x100_S1000x100_0_0) main_arg3
  let main_v11 : FVec F S1000x100 .f32 := Host.absf main_v10
  let main_cst : FVec F S_ .f32 := constant S_ .f32 0x7F800000#32
  let main_v12 : FVec F S1000x100 .f32 := broadcastInDim S1000x100 ![] bcast_S_S1000x100 main_cst
  let main_v13 : IVec S1000x100 1 := cmpf .olt main_v11 main_v12
  let main_v14 : FVec F S1000x100 .f32 := (extractStridedSlice S1000x100 ![0, 0] · slices_S100001x100_S1000x100_0_0) main_arg4
  let main_v15 : FVec F S1000x100 .f32 := Host.absf main_v14
  let main_cst_3 : FVec F S_ .f32 := constant S_ .f32 0x7F800000#32
  let main_v16 : FVec F S1000x100 .f32 := broadcastInDim S1000x100 ![] bcast_S_S1000x100 main_cst_3
  let main_v17 : IVec S1000x100 1 := cmpf .olt main_v15 main_v16
  fn_part1 (F := F) main_arg5 main_arg6 main_arg7 main_arg8 main_v4 main_v9 main_v13 main_v17
-- ==== Kernel.lean ====
abbrev S16384x8 : Shape := ⟨2, ![16384, 8]⟩
abbrev S8x5 : Shape := ⟨2, ![8, 5]⟩
abbrev S100001x100 : Shape := ⟨2, ![100001, 100]⟩
abbrev S1001x100 : Shape := ⟨2, ![1001, 100]⟩
abbrev S8x100 : Shape := ⟨2, ![8, 100]⟩
abbrev S100001x1 : Shape := ⟨2, ![100001, 1]⟩
abbrev S1001x1 : Shape := ⟨2, ![1001, 1]⟩
abbrev S8x16384 : Shape := ⟨2, ![8, 16384]⟩
abbrev S_ : Shape := ⟨0, ![]⟩
abbrev S8x8 : Shape := ⟨2, ![8, 8]⟩
abbrev S1000x100 : Shape := ⟨2, ![1000, 100]⟩
abbrev S1000 : Shape := ⟨1, ![1000]⟩
abbrev S1000x1 : Shape := ⟨2, ![1000, 1]⟩
abbrev S1000x3 : Shape := ⟨2, ![1000, 3]⟩
abbrev S1000x104 : Shape := ⟨2, ![1000, 104]⟩
abbrev S1024x128 : Shape := ⟨2, ![1024, 128]⟩
abbrev S1000x2 : Shape := ⟨2, ![1000, 2]⟩
abbrev S1000x0 : Shape := ⟨2, ![1000, 0]⟩
abbrev S1x1024x128 : Shape := ⟨3, ![1, 1024, 128]⟩
abbrev S6x1024x128 : Shape := ⟨3, ![6, 1024, 128]⟩
abbrev S100x8 : Shape := ⟨2, ![100, 8]⟩
abbrev S128x8 : Shape := ⟨2, ![128, 8]⟩
abbrev S8x128 : Shape := ⟨2, ![8, 128]⟩
abbrev S8x8x128 : Shape := ⟨3, ![8, 8, 128]⟩
abbrev S64x128 : Shape := ⟨2, ![64, 128]⟩
abbrev S1x1 : Shape := ⟨2, ![1, 1]⟩
abbrev S8x8192 : Shape := ⟨2, ![8, 8192]⟩
abbrev S9x8192 : Shape := ⟨2, ![9, 8192]⟩
abbrev S8x1 : Shape := ⟨2, ![8, 1]⟩
abbrev S8x1024 : Shape := ⟨2, ![8, 1024]⟩
abbrev S1x8x128 : Shape := ⟨3, ![1, 8, 128]⟩
abbrev S1 : Shape := ⟨1, ![1]⟩
abbrev S1x1x1 : Shape := ⟨3, ![1, 1, 1]⟩
abbrev S8 : Shape := ⟨1, ![8]⟩
abbrev S128x8192 : Shape := ⟨2, ![128, 8192]⟩
abbrev S1024x8192 : Shape := ⟨2, ![1024, 8192]⟩
abbrev S1x8192 : Shape := ⟨2, ![1, 8192]⟩
abbrev S16x128 : Shape := ⟨2, ![16, 128]⟩
abbrev S16x8192 : Shape := ⟨2, ![16, 8192]⟩
abbrev S48x128 : Shape := ⟨2, ![48, 128]⟩
abbrev S48x8192 : Shape := ⟨2, ![48, 8192]⟩
abbrev S128x1 : Shape := ⟨2, ![128, 1]⟩
abbrev S8192 : Shape := ⟨1, ![8192]⟩

abbrev nBuf : Space → Nat
  | .hbm => 115
  | .vmem => 11
  | .smem => 0
  | _ => 0

abbrev bufTy : (tb : Table) → Fin (tcTables nBuf tb) → BufTy
  | .hbm, ⟨0, _⟩ => ⟨S16384x8, .i32⟩
  | .hbm, ⟨1, _⟩ => ⟨S8x5, .i32⟩
  | .hbm, ⟨2, _⟩ => ⟨S100001x100, .f32⟩
  | .hbm, ⟨3, _⟩ => ⟨S100001x100, .f32⟩
  | .hbm, ⟨4, _⟩ => ⟨S100001x100, .f32⟩
  | .hbm, ⟨5, _⟩ => ⟨S1001x100, .f32⟩
  | .hbm, ⟨6, _⟩ => ⟨S1001x100, .f32⟩
  | .hbm, ⟨7, _⟩ => ⟨S100001x100, .f32⟩
  | .hbm, ⟨8, _⟩ => ⟨S8x100, .f32⟩
  | .hbm, ⟨9, _⟩ => ⟨S100001x1, .f32⟩
  | .hbm, ⟨10, _⟩ => ⟨S100001x1, .f32⟩
  | .hbm, ⟨11, _⟩ => ⟨S100001x1, .f32⟩
  | .hbm, ⟨12, _⟩ => ⟨S1001x1, .f32⟩
  | .hbm, ⟨13, _⟩ => ⟨S1001x1, .f32⟩
  | .hbm, ⟨14, _⟩ => ⟨S100001x1, .f32⟩
  | .hbm, ⟨15, _⟩ => ⟨S100001x1, .f32⟩
  | .hbm, ⟨16, _⟩ => ⟨S100001x1, .f32⟩
  | .hbm, ⟨17, _⟩ => ⟨S8x16384, .i32⟩
  | .hbm, ⟨18, _⟩ => ⟨S_, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S1000x100, .f32⟩
  | .hbm, ⟨23, _⟩ => ⟨S1000x100, .f32⟩
  | .hbm, ⟨24, _⟩ => ⟨S_, .f32⟩
  | .hbm, ⟨25, _⟩ => ⟨S1000, .f32⟩
  | .hbm, ⟨26, _⟩ => ⟨S1000x1, .f32⟩
  | .hbm, ⟨27, _⟩ => ⟨S_, .f32⟩
  | .hbm, ⟨28, _⟩ => ⟨S1000x3, .f32⟩
  | .hbm, ⟨29, _⟩ => ⟨S1000x104, .f32⟩
  | .hbm, ⟨30, _⟩ => ⟨S_, .i32⟩
  | .hbm, ⟨31, _⟩ => ⟨S_, .f32⟩
  | .hbm, ⟨32, _⟩ => ⟨S1024x128, .f32⟩
  | .hbm, ⟨33, _⟩ => ⟨S1000x100, .f32⟩
  | .hbm, ⟨34, _⟩ => ⟨S1000x100, .f32⟩
  | .hbm, ⟨35, _⟩ => ⟨S_, .f32⟩
  | .hbm, ⟨36, _⟩ => ⟨S1000, .f32⟩
  | .hbm, ⟨37, _⟩ => ⟨S1000x1, .f32⟩
  | .hbm, ⟨38, _⟩ => ⟨S_, .f32⟩
  | .hbm, ⟨39, _⟩ => ⟨S1000x2, .f32⟩
  | .hbm, ⟨40, _⟩ => ⟨S1000x1, .f32⟩
  | .hbm, ⟨41, _⟩ => ⟨S1000x104, .f32⟩
  | .hbm, ⟨42, _⟩ => ⟨S_, .i32⟩
  | .hbm, ⟨43, _⟩ => ⟨S_, .f32⟩
  | .hbm, ⟨44, _⟩ => ⟨S1024x128, .f32⟩
  | .hbm, ⟨45, _⟩ => ⟨S1000x100, .f32⟩
  | .hbm, ⟨46, _⟩ => ⟨S1000x100, .f32⟩
  | .hbm, ⟨47, _⟩ => ⟨S_, .f32⟩
  | .hbm, ⟨48, _⟩ => ⟨S1000, .f32⟩
  | .hbm, ⟨49, _⟩ => ⟨S1000x1, .f32⟩
  | .hbm, ⟨50, _⟩ => ⟨S_, .f32⟩
  | .hbm, ⟨51, _⟩ => ⟨S1000x1, .f32⟩
  | .hbm, ⟨52, _⟩ => ⟨S1000x1, .f32⟩
  | .hbm, ⟨53, _⟩ => ⟨S1000x1, .f32⟩
  | .hbm, ⟨54, _⟩ => ⟨S1000x104, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1000x100, .f32⟩
  | .hbm, ⟨59, _⟩ => ⟨S1000x100, .f32⟩
  | .hbm, ⟨60, _⟩ => ⟨S_, .f32⟩
  | .hbm, ⟨61, _⟩ => ⟨S1000, .f32⟩
  | .hbm, ⟨62, _⟩ => ⟨S1000x1, .f32⟩
  | .hbm, ⟨63, _⟩ => ⟨S_, .f32⟩
  | .hbm, ⟨64, _⟩ => ⟨S1000x2, .f32⟩
  | .hbm, ⟨65, _⟩ => ⟨S1000x1, .f32⟩
  | .hbm, ⟨66, _⟩ => ⟨S1000x104, .f32⟩
  | .hbm, ⟨67, _⟩ => ⟨S_, .i32⟩
  | .hbm, ⟨68, _⟩ => ⟨S_, .f32⟩
  | .hbm, ⟨69, _⟩ => ⟨S1024x128, .f32⟩
  | .hbm, ⟨70, _⟩ => ⟨S1000x100, .f32⟩
  | .hbm, ⟨71, _⟩ => ⟨S1000x100, .f32⟩
  | .hbm, ⟨72, _⟩ => ⟨S_, .f32⟩
  | .hbm, ⟨73, _⟩ => ⟨S1000, .f32⟩
  | .hbm, ⟨74, _⟩ => ⟨S1000x1, .f32⟩
  | .hbm, ⟨75, _⟩ => ⟨S_, .f32⟩
  | .hbm, ⟨76, _⟩ => ⟨S1000x2, .f32⟩
  | .hbm, ⟨77, _⟩ => ⟨S1000x1, .f32⟩
  | .hbm, ⟨78, _⟩ => ⟨S1000x104, .f32⟩
  | .hbm, ⟨79, _⟩ => ⟨S_, .i32⟩
  | .hbm, ⟨80, _⟩ => ⟨S_, .f32⟩
  | .hbm, ⟨81, _⟩ => ⟨S1024x128, .f32⟩
  | .hbm, ⟨82, _⟩ => ⟨S1000x100, .f32⟩
  | .hbm, ⟨83, _⟩ => ⟨S1000x100, .f32⟩
  | .hbm, ⟨84, _⟩ => ⟨S_, .f32⟩
  | .hbm, ⟨85, _⟩ => ⟨S1000, .f32⟩
  | .hbm, ⟨86, _⟩ => ⟨S1000x1, .f32⟩
  | .hbm, ⟨87, _⟩ => ⟨S_, .f32⟩
  | .hbm, ⟨88, _⟩ => ⟨S1000x0, .f32⟩
  | .hbm, ⟨89, _⟩ => ⟨S1000x1, .f32⟩
  | .hbm, ⟨90, _⟩ => ⟨S1000x1, .f32⟩
  | .hbm, ⟨91, _⟩ => ⟨S1000x1, .f32⟩
  | .hbm, ⟨92, _⟩ => ⟨S1000x104, .f32⟩
  | .hbm, ⟨93, _⟩ => ⟨S_, .i32⟩
  | .hbm, ⟨94, _⟩ => ⟨S_, .f32⟩
  | .hbm, ⟨95, _⟩ => ⟨S1024x128, .f32⟩
  | .hbm, ⟨96, _⟩ => ⟨S1x1024x128, .f32⟩
  | .hbm, ⟨97, _⟩ => ⟨S1x1024x128, .f32⟩
  | .hbm, ⟨98, _⟩ => ⟨S1x1024x128, .f32⟩
  | .hbm, ⟨99, _⟩ => ⟨S1x1024x128, .f32⟩
  | .hbm, ⟨100, _⟩ => ⟨S1x1024x128, .f32⟩
  | .hbm, ⟨101, _⟩ => ⟨S1x1024x128, .f32⟩
  | .hbm, ⟨102, _⟩ => ⟨S6x1024x128, .f32⟩
  | .hbm, ⟨103, _⟩ => ⟨S6x1024x128, .bf16⟩
  | .hbm, ⟨104, _⟩ => ⟨S100x8, .f32⟩
  | .hbm, ⟨105, _⟩ => ⟨S_, .i32⟩
  | .hbm, ⟨106, _⟩ => ⟨S_, .f32⟩
  | .hbm, ⟨107, _⟩ => ⟨S128x8, .f32⟩
  | .hbm, ⟨108, _⟩ => ⟨S_, .i32⟩
  | .hbm, ⟨109, _⟩ => ⟨S_, .f32⟩
  | .hbm, ⟨110, _⟩ => ⟨S8x128, .f32⟩
  | .hbm, ⟨111, _⟩ => ⟨S8x8x128, .f32⟩
  | .hbm, ⟨112, _⟩ => ⟨S64x128, .f32⟩
  | .hbm, ⟨113, _⟩ => ⟨S1x1, .f32⟩
  | .hbm, ⟨114, _⟩ => ⟨S_, .f32⟩
  | .local _ .vmem, ⟨0, _⟩ => ⟨S8x8192, .i32⟩
  | .local _ .vmem, ⟨1, _⟩ => ⟨S8x8192, .i32⟩
  | .local _ .vmem, ⟨2, _⟩ => ⟨S8x8, .i32⟩
  | .local _ .vmem, ⟨3, _⟩ => ⟨S6x1024x128, .bf16⟩
  | .local _ .vmem, ⟨4, _⟩ => ⟨S128x8, .f32⟩
  | .local _ .vmem, ⟨5, _⟩ => ⟨S64x128, .f32⟩
  | .local _ .vmem, ⟨6, _⟩ => ⟨S1x1, .f32⟩
  | .local _ .vmem, ⟨7, _⟩ => ⟨S64x128, .bf16⟩
  | .local _ .vmem, ⟨8, _⟩ => ⟨S64x128, .f32⟩
  | .local _ .vmem, ⟨9, _⟩ => ⟨S8x128, .f32⟩
  | .local _ .vmem, ⟨10, _⟩ => ⟨S9x8192, .f32⟩
  | _, _ => ⟨S16384x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_call0_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_c_1 : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_4 : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_5 : Ref sig .tc := ⟨.hbm, 47, rfl⟩
abbrev main_v20 : Ref sig .tc := ⟨.hbm, 48, rfl⟩
abbrev main_v21 : Ref sig .tc := ⟨.hbm, 49, rfl⟩
abbrev main_cst_6 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_call3_v0 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_8 : Ref sig .tc := ⟨.hbm, 60, rfl⟩
abbrev main_v29 : Ref sig .tc := ⟨.hbm, 61, rfl⟩
abbrev main_v30 : Ref sig .tc := ⟨.hbm, 62, rfl⟩
abbrev main_cst_9 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_10 : Ref sig .tc := ⟨.hbm, 67, rfl⟩
abbrev main_call4_v0 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_11 : Ref sig .tc := ⟨.hbm, 72, rfl⟩
abbrev main_v37 : Ref sig .tc := ⟨.hbm, 73, rfl⟩
abbrev main_v38 : Ref sig .tc := ⟨.hbm, 74, rfl⟩
abbrev main_cst_12 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_13 : Ref sig .tc := ⟨.hbm, 79, rfl⟩
abbrev main_call5_v0 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_14 : Ref sig .tc := ⟨.hbm, 84, rfl⟩
abbrev main_v45 : Ref sig .tc := ⟨.hbm, 85, rfl⟩
abbrev main_v46 : Ref sig .tc := ⟨.hbm, 86, rfl⟩
abbrev main_cst_15 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_c_16 : Ref sig .tc := ⟨.hbm, 93, rfl⟩
abbrev main_call6_v0 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_17 : Ref sig .tc := ⟨.hbm, 105, rfl⟩
abbrev main_call7_v0 : Ref sig .tc := ⟨.hbm, 106, rfl⟩
abbrev main_v62 : Ref sig .tc := ⟨.hbm, 107, rfl⟩
abbrev main_c_18 : Ref sig .tc := ⟨.hbm, 108, rfl⟩
abbrev main_call8_v0 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v474 : BitVec 1 := Scalar.cmpi .eq arg0 c1_i32
  let v475 : BitVec 32 := Scalar.extui v474
  let c0_i32_190 : BitVec 32 := 0#32
  let v476 : BitVec 1 := Scalar.cmpi .ne v475 c0_i32_190
  v476

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x8 : Shape := ⟨2, ![16384, 8]⟩
abbrev S8x5 : Shape := ⟨2, ![8, 5]⟩
abbrev S100001x100 : Shape := ⟨2, ![100001, 100]⟩
abbrev S1001x100 : Shape := ⟨2, ![1001, 100]⟩
abbrev S8x100 : Shape := ⟨2, ![8, 100]⟩
abbrev S100001x1 : Shape := ⟨2, ![100001, 1]⟩
abbrev S1001x1 : Shape := ⟨2, ![1001, 1]⟩
abbrev S16384x1 : Shape := ⟨2, ![16384, 1]⟩
abbrev S16384 : Shape := ⟨1, ![16384]⟩
abbrev S1x100 : Shape := ⟨2, ![1, 100]⟩
abbrev S100 : Shape := ⟨1, ![100]⟩
abbrev S1x5 : Shape := ⟨2, ![1, 5]⟩
abbrev S5 : Shape := ⟨1, ![5]⟩
abbrev S16384x100 : Shape := ⟨2, ![16384, 100]⟩
abbrev S_ : Shape := ⟨0, ![]⟩
abbrev S5x1 : Shape := ⟨2, ![5, 1]⟩
abbrev S5x100 : Shape := ⟨2, ![5, 100]⟩
abbrev S100x5 : Shape := ⟨2, ![100, 5]⟩
abbrev S16384x5 : Shape := ⟨2, ![16384, 5]⟩

abbrev nBuf : Space → Nat
  | .hbm => 702
  | .vmem => 0
  | .smem => 0
  | _ => 0

abbrev hbmTy0_0 (i : Nat) : BufTy := match i % 128 with
  | 0 => ⟨S16384x8, .i32⟩
  | 1 => ⟨S8x5, .i32⟩
  | 2 => ⟨S100001x100, .f32⟩
  | 3 => ⟨S100001x100, .f32⟩
  | 4 => ⟨S100001x100, .f32⟩
  | 5 => ⟨S1001x100, .f32⟩
  | 6 => ⟨S1001x100, .f32⟩
  | 7 => ⟨S100001x100, .f32⟩
  | 8 => ⟨S8x100, .f32⟩
  | 9 => ⟨S100001x1, .f32⟩
  | 10 => ⟨S100001x1, .f32⟩
  | 11 => ⟨S100001x1, .f32⟩
  | 12 => ⟨S1001x1, .f32⟩
  | 13 => ⟨S1001x1, .f32⟩
  | 14 => ⟨S100001x1, .f32⟩
  | 15 => ⟨S100001x1, .f32⟩
  | 16 => ⟨S100001x1, .f32⟩
  | 17 => ⟨S16384x1, .i32⟩
  | 18 => ⟨S16384, .i32⟩
  | 19 => ⟨S16384x1, .i32⟩
  | 20 => ⟨S16384, .i32⟩
  | 21 => ⟨S16384x1, .i32⟩
  | 22 => ⟨S16384, .i32⟩
  | 23 => ⟨S16384x1, .i32⟩
  | 24 => ⟨S16384, .i32⟩
  | 25 => ⟨S16384x1, .i32⟩
  | 26 => ⟨S16384, .i32⟩
  | 27 => ⟨S16384x1, .i32⟩
  | 28 => ⟨S16384, .i32⟩
  | 29 => ⟨S16384x1, .i32⟩
  | 30 => ⟨S16384, .i32⟩
  | 31 => ⟨S16384x1, .i32⟩
  | 32 => ⟨S16384, .i32⟩
  | 33 => ⟨S1x100, .f32⟩
  | 34 => ⟨S100, .f32⟩
  | 35 => ⟨S1x5, .i32⟩
  | 36 => ⟨S5, .i32⟩
  | 37 => ⟨S16384x1, .i32⟩
  | 38 => ⟨S16384x100, .f32⟩
  | 39 => ⟨S1x100, .f32⟩
  | 40 => ⟨S16384x100, .f32⟩
  | 41 => ⟨S16384x100, .f32⟩
  | 42 => ⟨S16384x1, .i32⟩
  | 43 => ⟨S16384x100, .f32⟩
  | 44 => ⟨S16384x1, .i32⟩
  | 45 => ⟨S16384x1, .f32⟩
  | 46 => ⟨S16384, .f32⟩
  | 47 => ⟨S16384x100, .f32⟩
  | 48 => ⟨S_, .f32⟩
  | 49 => ⟨S16384, .f32⟩
  | 50 => ⟨S16384, .f32⟩
  | 51 => ⟨S16384, .f32⟩
  | 52 => ⟨S_, .f32⟩
  | 53 => ⟨S16384, .f32⟩
  | 54 => ⟨S16384, .f32⟩
  | 55 => ⟨S16384, .f32⟩
  | 56 => ⟨S16384, .f32⟩
  | 57 => ⟨S16384, .i1⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S5x1, .i32⟩
  | 69 => ⟨S5x100, .f32⟩
  | 70 => ⟨S100x5, .f32⟩
  | 71 => ⟨S16384x5, .f32⟩
  | 72 => ⟨S16384x1, .f32⟩
  | 73 => ⟨S16384x5, .f32⟩
  | 74 => ⟨S16384x5, .f32⟩
  | 75 => ⟨S16384x5, .f32⟩
  | 76 => ⟨S16384x5, .f32⟩
  | 77 => ⟨S_, .f32⟩
  | 78 => ⟨S16384x5, .f32⟩
  | 79 => ⟨S16384x5, .f32⟩
  | 80 => ⟨S16384x5, .f32⟩
  | 81 => ⟨S16384x5, .f32⟩
  | 82 => ⟨S16384x5, .i1⟩
  | 83 => ⟨S16384x5, .f32⟩
  | 84 => ⟨S16384x5, .f32⟩
  | 85 => ⟨S16384x5, .f32⟩
  | 86 => ⟨S16384x5, .f32⟩
  | 87 => ⟨S16384x5, .f32⟩
  | 88 => ⟨S16384x5, .f32⟩
  | 89 => ⟨S16384x5, .f32⟩
  | 90 => ⟨S16384x5, .f32⟩
  | 91 => ⟨S16384x5, .f32⟩
  | 92 => ⟨S_, .f32⟩
  | 93 => ⟨S16384, .f32⟩
  | 94 => ⟨S16384, .f32⟩
  | 95 => ⟨S16384, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S1x100, .f32⟩
  | 103 => ⟨S100, .f32⟩
  | 104 => ⟨S1x5, .i32⟩
  | 105 => ⟨S5, .i32⟩
  | 106 => ⟨S16384x1, .i32⟩
  | 107 => ⟨S16384x100, .f32⟩
  | 108 => ⟨S1x100, .f32⟩
  | 109 => ⟨S16384x100, .f32⟩
  | 110 => ⟨S16384x100, .f32⟩
  | 111 => ⟨S16384x1, .i32⟩
  | 112 => ⟨S16384x100, .f32⟩
  | 113 => ⟨S16384x1, .i32⟩
  | 114 => ⟨S16384x1, .f32⟩
  | 115 => ⟨S16384, .f32⟩
  | 116 => ⟨S16384x100, .f32⟩
  | 117 => ⟨S_, .f32⟩
  | 118 => ⟨S16384, .f32⟩
  | 119 => ⟨S16384, .f32⟩
  | 120 => ⟨S16384, .f32⟩
  | 121 => ⟨S_, .f32⟩
  | 122 => ⟨S16384, .f32⟩
  | 123 => ⟨S16384, .f32⟩
  | 124 => ⟨S16384, .f32⟩
  | 125 => ⟨S16384, .f32⟩
  | 126 => ⟨S16384, .i1⟩
  | 127 => ⟨S16384, .f32⟩
  | _ => ⟨S16384x8, .i32⟩

abbrev hbmTy0_1 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S16384, .f32⟩
  | 9 => ⟨S5x1, .i32⟩
  | 10 => ⟨S5x100, .f32⟩
  | 11 => ⟨S100x5, .f32⟩
  | 12 => ⟨S16384x5, .f32⟩
  | 13 => ⟨S16384x1, .f32⟩
  | 14 => ⟨S16384x5, .f32⟩
  | 15 => ⟨S16384x5, .f32⟩
  | 16 => ⟨S16384x5, .f32⟩
  | 17 => ⟨S16384x5, .f32⟩
  | 18 => ⟨S_, .f32⟩
  | 19 => ⟨S16384x5, .f32⟩
  | 20 => ⟨S16384x5, .f32⟩
  | 21 => ⟨S16384x5, .f32⟩
  | 22 => ⟨S16384x5, .f32⟩
  | 23 => ⟨S16384x5, .i1⟩
  | 24 => ⟨S16384x5, .f32⟩
  | 25 => ⟨S16384x5, .f32⟩
  | 26 => ⟨S16384x5, .f32⟩
  | 27 => ⟨S16384x5, .f32⟩
  | 28 => ⟨S16384x5, .f32⟩
  | 29 => ⟨S16384x5, .f32⟩
  | 30 => ⟨S16384x5, .f32⟩
  | 31 => ⟨S16384x5, .f32⟩
  | 32 => ⟨S16384x5, .f32⟩
  | 33 => ⟨S_, .f32⟩
  | 34 => ⟨S16384, .f32⟩
  | 35 => ⟨S16384, .f32⟩
  | 36 => ⟨S16384, .f32⟩
  | 37 => ⟨S_, .f32⟩
  | 38 => ⟨S_, .f32⟩
  | 39 => ⟨S_, .f32⟩
  | 40 => ⟨S_, .f32⟩
  | 41 => ⟨S_, .f32⟩
  | 42 => ⟨S1x100, .f32⟩
  | 43 => ⟨S100, .f32⟩
  | 44 => ⟨S1x5, .i32⟩
  | 45 => ⟨S5, .i32⟩
  | 46 => ⟨S16384x1, .i32⟩
  | 47 => ⟨S16384x100, .f32⟩
  | 48 => ⟨S1x100, .f32⟩
  | 49 => ⟨S16384x100, .f32⟩
  | 50 => ⟨S16384x100, .f32⟩
  | 51 => ⟨S16384x1, .i32⟩
  | 52 => ⟨S16384x100, .f32⟩
  | 53 => ⟨S16384x1, .i32⟩
  | 54 => ⟨S16384x1, .f32⟩
  | 55 => ⟨S16384, .f32⟩
  | 56 => ⟨S16384x100, .f32⟩
  | 57 => ⟨S_, .f32⟩
  | 58 => ⟨S16384, .f32⟩
  | 59 => ⟨S16384, .f32⟩
  | 60 => ⟨S16384, .f32⟩
  | 61 => ⟨S_, .f32⟩
  | 62 => ⟨S16384, .f32⟩
  | 63 => ⟨S16384, .f32⟩
  | 64 => ⟨S16384, .f32⟩
  | 65 => ⟨S16384, .f32⟩
  | 66 => ⟨S16384, .i1⟩
  | 67 => ⟨S16384, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S16384, .f32⟩
  | 77 => ⟨S5x1, .i32⟩
  | 78 => ⟨S5x100, .f32⟩
  | 79 => ⟨S100x5, .f32⟩
  | 80 => ⟨S16384x5, .f32⟩
  | 81 => ⟨S16384x1, .f32⟩
  | 82 => ⟨S16384x5, .f32⟩
  | 83 => ⟨S16384x5, .f32⟩
  | 84 => ⟨S16384x5, .f32⟩
  | 85 => ⟨S16384x5, .f32⟩
  | 86 => ⟨S_, .f32⟩
  | 87 => ⟨S16384x5, .f32⟩
  | 88 => ⟨S16384x5, .f32⟩
  | 89 => ⟨S16384x5, .f32⟩
  | 90 => ⟨S16384x5, .f32⟩
  | 91 => ⟨S16384x5, .i1⟩
  | 92 => ⟨S16384x5, .f32⟩
  | 93 => ⟨S16384x5, .f32⟩
  | 94 => ⟨S16384x5, .f32⟩
  | 95 => ⟨S16384x5, .f32⟩
  | 96 => ⟨S16384x5, .f32⟩
  | 97 => ⟨S16384x5, .f32⟩
  | 98 => ⟨S16384x5, .f32⟩
  | 99 => ⟨S16384x5, .f32⟩
  | 100 => ⟨S16384x5, .f32⟩
  | 101 => ⟨S_, .f32⟩
  | 102 => ⟨S16384, .f32⟩
  | 103 => ⟨S16384, .f32⟩
  | 104 => ⟨S16384, .f32⟩
  | 105 => ⟨S_, .f32⟩
  | 106 => ⟨S_, .f32⟩
  | 107 => ⟨S_, .f32⟩
  | 108 => ⟨S_, .f32⟩
  | 109 => ⟨S_, .f32⟩
  | 110 => ⟨S1x100, .f32⟩
  | 111 => ⟨S100, .f32⟩
  | 112 => ⟨S1x5, .i32⟩
  | 113 => ⟨S5, .i32⟩
  | 114 => ⟨S16384x1, .i32⟩
  | 115 => ⟨S16384x100, .f32⟩
  | 116 => ⟨S1x100, .f32⟩
  | 117 => ⟨S16384x100, .f32⟩
  | 118 => ⟨S16384x100, .f32⟩
  | 119 => ⟨S16384x1, .i32⟩
  | 120 => ⟨S16384x100, .f32⟩
  | 121 => ⟨S16384x1, .i32⟩
  | 122 => ⟨S16384x1, .f32⟩
  | 123 => ⟨S16384, .f32⟩
  | 124 => ⟨S16384x100, .f32⟩
  | 125 => ⟨S_, .f32⟩
  | 126 => ⟨S16384, .f32⟩
  | 127 => ⟨S16384, .f32⟩
  | _ => ⟨S16384x8, .i32⟩

abbrev hbmTy0_2 (i : Nat) : BufTy := match i % 128 with
  | 0 => ⟨S16384, .f32⟩
  | 1 => ⟨S_, .f32⟩
  | 2 => ⟨S16384, .f32⟩
  | 3 => ⟨S16384, .f32⟩
  | 4 => ⟨S16384, .f32⟩
  | 5 => ⟨S16384, .f32⟩
  | 6 => ⟨S16384, .i1⟩
  | 7 => ⟨S16384, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384, .f32⟩
  | 15 => ⟨S16384, .f32⟩
  | 16 => ⟨S16384, .f32⟩
  | 17 => ⟨S5x1, .i32⟩
  | 18 => ⟨S5x100, .f32⟩
  | 19 => ⟨S100x5, .f32⟩
  | 20 => ⟨S16384x5, .f32⟩
  | 21 => ⟨S16384x1, .f32⟩
  | 22 => ⟨S16384x5, .f32⟩
  | 23 => ⟨S16384x5, .f32⟩
  | 24 => ⟨S16384x5, .f32⟩
  | 25 => ⟨S16384x5, .f32⟩
  | 26 => ⟨S_, .f32⟩
  | 27 => ⟨S16384x5, .f32⟩
  | 28 => ⟨S16384x5, .f32⟩
  | 29 => ⟨S16384x5, .f32⟩
  | 30 => ⟨S16384x5, .f32⟩
  | 31 => ⟨S16384x5, .i1⟩
  | 32 => ⟨S16384x5, .f32⟩
  | 33 => ⟨S16384x5, .f32⟩
  | 34 => ⟨S16384x5, .f32⟩
  | 35 => ⟨S16384x5, .f32⟩
  | 36 => ⟨S16384x5, .f32⟩
  | 37 => ⟨S16384x5, .f32⟩
  | 38 => ⟨S16384x5, .f32⟩
  | 39 => ⟨S16384x5, .f32⟩
  | 40 => ⟨S16384x5, .f32⟩
  | 41 => ⟨S_, .f32⟩
  | 42 => ⟨S16384, .f32⟩
  | 43 => ⟨S16384, .f32⟩
  | 44 => ⟨S16384, .f32⟩
  | 45 => ⟨S_, .f32⟩
  | 46 => ⟨S_, .f32⟩
  | 47 => ⟨S_, .f32⟩
  | 48 => ⟨S_, .f32⟩
  | 49 => ⟨S_, .f32⟩
  | 50 => ⟨S1x100, .f32⟩
  | 51 => ⟨S100, .f32⟩
  | 52 => ⟨S1x5, .i32⟩
  | 53 => ⟨S5, .i32⟩
  | 54 => ⟨S16384x1, .i32⟩
  | 55 => ⟨S16384x100, .f32⟩
  | 56 => ⟨S1x100, .f32⟩
  | 57 => ⟨S16384x100, .f32⟩
  | 58 => ⟨S16384x100, .f32⟩
  | 59 => ⟨S16384x1, .i32⟩
  | 60 => ⟨S16384x100, .f32⟩
  | 61 => ⟨S16384x1, .i32⟩
  | 62 => ⟨S16384x1, .f32⟩
  | 63 => ⟨S16384, .f32⟩
  | 64 => ⟨S16384x100, .f32⟩
  | 65 => ⟨S_, .f32⟩
  | 66 => ⟨S16384, .f32⟩
  | 67 => ⟨S16384, .f32⟩
  | 68 => ⟨S16384, .f32⟩
  | 69 => ⟨S_, .f32⟩
  | 70 => ⟨S16384, .f32⟩
  | 71 => ⟨S16384, .f32⟩
  | 72 => ⟨S16384, .f32⟩
  | 73 => ⟨S16384, .f32⟩
  | 74 => ⟨S16384, .i1⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384, .f32⟩
  | 85 => ⟨S5x1, .i32⟩
  | 86 => ⟨S5x100, .f32⟩
  | 87 => ⟨S100x5, .f32⟩
  | 88 => ⟨S16384x5, .f32⟩
  | 89 => ⟨S16384x1, .f32⟩
  | 90 => ⟨S16384x5, .f32⟩
  | 91 => ⟨S16384x5, .f32⟩
  | 92 => ⟨S16384x5, .f32⟩
  | 93 => ⟨S16384x5, .f32⟩
  | 94 => ⟨S_, .f32⟩
  | 95 => ⟨S16384x5, .f32⟩
  | 96 => ⟨S16384x5, .f32⟩
  | 97 => ⟨S16384x5, .f32⟩
  | 98 => ⟨S16384x5, .f32⟩
  | 99 => ⟨S16384x5, .i1⟩
  | 100 => ⟨S16384x5, .f32⟩
  | 101 => ⟨S16384x5, .f32⟩
  | 102 => ⟨S16384x5, .f32⟩
  | 103 => ⟨S16384x5, .f32⟩
  | 104 => ⟨S16384x5, .f32⟩
  | 105 => ⟨S16384x5, .f32⟩
  | 106 => ⟨S16384x5, .f32⟩
  | 107 => ⟨S16384x5, .f32⟩
  | 108 => ⟨S16384x5, .f32⟩
  | 109 => ⟨S_, .f32⟩
  | 110 => ⟨S16384, .f32⟩
  | 111 => ⟨S16384, .f32⟩
  | 112 => ⟨S16384, .f32⟩
  | 113 => ⟨S_, .f32⟩
  | 114 => ⟨S_, .f32⟩
  | 115 => ⟨S_, .f32⟩
  | 116 => ⟨S_, .f32⟩
  | 117 => ⟨S_, .f32⟩
  | 118 => ⟨S1x100, .f32⟩
  | 119 => ⟨S100, .f32⟩
  | 120 => ⟨S1x5, .i32⟩
  | 121 => ⟨S5, .i32⟩
  | 122 => ⟨S16384x1, .i32⟩
  | 123 => ⟨S16384x100, .f32⟩
  | 124 => ⟨S1x100, .f32⟩
  | 125 => ⟨S16384x100, .f32⟩
  | 126 => ⟨S16384x100, .f32⟩
  | 127 => ⟨S16384x1, .i32⟩
  | _ => ⟨S16384x8, .i32⟩

abbrev hbmTy0_3 (i : Nat) : BufTy := match i % 128 with
  | 0 => ⟨S16384x100, .f32⟩
  | 1 => ⟨S16384x1, .i32⟩
  | 2 => ⟨S16384x1, .f32⟩
  | 3 => ⟨S16384, .f32⟩
  | 4 => ⟨S16384x100, .f32⟩
  | 5 => ⟨S_, .f32⟩
  | 6 => ⟨S16384, .f32⟩
  | 7 => ⟨S16384, .f32⟩
  | 8 => ⟨S16384, .f32⟩
  | 9 => ⟨S_, .f32⟩
  | 10 => ⟨S16384, .f32⟩
  | 11 => ⟨S16384, .f32⟩
  | 12 => ⟨S16384, .f32⟩
  | 13 => ⟨S16384, .f32⟩
  | 14 => ⟨S16384, .i1⟩
  | 15 => ⟨S16384, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S16384, .f32⟩
  | 25 => ⟨S5x1, .i32⟩
  | 26 => ⟨S5x100, .f32⟩
  | 27 => ⟨S100x5, .f32⟩
  | 28 => ⟨S16384x5, .f32⟩
  | 29 => ⟨S16384x1, .f32⟩
  | 30 => ⟨S16384x5, .f32⟩
  | 31 => ⟨S16384x5, .f32⟩
  | 32 => ⟨S16384x5, .f32⟩
  | 33 => ⟨S16384x5, .f32⟩
  | 34 => ⟨S_, .f32⟩
  | 35 => ⟨S16384x5, .f32⟩
  | 36 => ⟨S16384x5, .f32⟩
  | 37 => ⟨S16384x5, .f32⟩
  | 38 => ⟨S16384x5, .f32⟩
  | 39 => ⟨S16384x5, .i1⟩
  | 40 => ⟨S16384x5, .f32⟩
  | 41 => ⟨S16384x5, .f32⟩
  | 42 => ⟨S16384x5, .f32⟩
  | 43 => ⟨S16384x5, .f32⟩
  | 44 => ⟨S16384x5, .f32⟩
  | 45 => ⟨S16384x5, .f32⟩
  | 46 => ⟨S16384x5, .f32⟩
  | 47 => ⟨S16384x5, .f32⟩
  | 48 => ⟨S16384x5, .f32⟩
  | 49 => ⟨S_, .f32⟩
  | 50 => ⟨S16384, .f32⟩
  | 51 => ⟨S16384, .f32⟩
  | 52 => ⟨S16384, .f32⟩
  | 53 => ⟨S_, .f32⟩
  | 54 => ⟨S_, .f32⟩
  | 55 => ⟨S_, .f32⟩
  | 56 => ⟨S_, .f32⟩
  | 57 => ⟨S_, .f32⟩
  | 58 => ⟨S1x100, .f32⟩
  | 59 => ⟨S100, .f32⟩
  | 60 => ⟨S1x5, .i32⟩
  | 61 => ⟨S5, .i32⟩
  | 62 => ⟨S16384x1, .i32⟩
  | 63 => ⟨S16384x100, .f32⟩
  | 64 => ⟨S1x100, .f32⟩
  | 65 => ⟨S16384x100, .f32⟩
  | 66 => ⟨S16384x100, .f32⟩
  | 67 => ⟨S16384x1, .i32⟩
  | 68 => ⟨S16384x100, .f32⟩
  | 69 => ⟨S16384x1, .i32⟩
  | 70 => ⟨S16384x1, .f32⟩
  | 71 => ⟨S16384, .f32⟩
  | 72 => ⟨S16384x100, .f32⟩
  | 73 => ⟨S_, .f32⟩
  | 74 => ⟨S16384, .f32⟩
  | 75 => ⟨S16384, .f32⟩
  | 76 => ⟨S16384, .f32⟩
  | 77 => ⟨S_, .f32⟩
  | 78 => ⟨S16384, .f32⟩
  | 79 => ⟨S16384, .f32⟩
  | 80 => ⟨S16384, .f32⟩
  | 81 => ⟨S16384, .f32⟩
  | 82 => ⟨S16384, .i1⟩
  | 83 => ⟨S16384, .f32⟩
  | 84 => ⟨S16384, .f32⟩
  | 85 => ⟨S16384, .f32⟩
  | 86 => ⟨S16384, .f32⟩
  | 87 => ⟨S16384, .f32⟩
  | 88 => ⟨S16384, .f32⟩
  | 89 => ⟨S16384, .f32⟩
  | 90 => ⟨S16384, .f32⟩
  | 91 => ⟨S16384, .f32⟩
  | 92 => ⟨S16384, .f32⟩
  | 93 => ⟨S5x1, .i32⟩
  | 94 => ⟨S5x100, .f32⟩
  | 95 => ⟨S100x5, .f32⟩
  | 96 => ⟨S16384x5, .f32⟩
  | 97 => ⟨S16384x1, .f32⟩
  | 98 => ⟨S16384x5, .f32⟩
  | 99 => ⟨S16384x5, .f32⟩
  | 100 => ⟨S16384x5, .f32⟩
  | 101 => ⟨S16384x5, .f32⟩
  | 102 => ⟨S_, .f32⟩
  | 103 => ⟨S16384x5, .f32⟩
  | 104 => ⟨S16384x5, .f32⟩
  | 105 => ⟨S16384x5, .f32⟩
  | 106 => ⟨S16384x5, .f32⟩
  | 107 => ⟨S16384x5, .i1⟩
  | 108 => ⟨S16384x5, .f32⟩
  | 109 => ⟨S16384x5, .f32⟩
  | 110 => ⟨S16384x5, .f32⟩
  | 111 => ⟨S16384x5, .f32⟩
  | 112 => ⟨S16384x5, .f32⟩
  | 113 => ⟨S16384x5, .f32⟩
  | 114 => ⟨S16384x5, .f32⟩
  | 115 => ⟨S16384x5, .f32⟩
  | 116 => ⟨S16384x5, .f32⟩
  | 117 => ⟨S_, .f32⟩
  | 118 => ⟨S16384, .f32⟩
  | 119 => ⟨S16384, .f32⟩
  | 120 => ⟨S16384, .f32⟩
  | 121 => ⟨S_, .f32⟩
  | 122 => ⟨S_, .f32⟩
  | 123 => ⟨S_, .f32⟩
  | 124 => ⟨S_, .f32⟩
  | 125 => ⟨S_, .f32⟩
  | 126 => ⟨S1x100, .f32⟩
  | 127 => ⟨S100, .f32⟩
  | _ => ⟨S16384x8, .i32⟩

abbrev hbmTy0_4 (i : Nat) : BufTy := match i % 128 with
  | 0 => ⟨S1x5, .i32⟩
  | 1 => ⟨S5, .i32⟩
  | 2 => ⟨S16384x1, .i32⟩
  | 3 => ⟨S16384x100, .f32⟩
  | 4 => ⟨S1x100, .f32⟩
  | 5 => ⟨S16384x100, .f32⟩
  | 6 => ⟨S16384x100, .f32⟩
  | 7 => ⟨S16384x1, .i32⟩
  | 8 => ⟨S16384x100, .f32⟩
  | 9 => ⟨S16384x1, .i32⟩
  | 10 => ⟨S16384x1, .f32⟩
  | 11 => ⟨S16384, .f32⟩
  | 12 => ⟨S16384x100, .f32⟩
  | 13 => ⟨S_, .f32⟩
  | 14 => ⟨S16384, .f32⟩
  | 15 => ⟨S16384, .f32⟩
  | 16 => ⟨S16384, .f32⟩
  | 17 => ⟨S_, .f32⟩
  | 18 => ⟨S16384, .f32⟩
  | 19 => ⟨S16384, .f32⟩
  | 20 => ⟨S16384, .f32⟩
  | 21 => ⟨S16384, .f32⟩
  | 22 => ⟨S16384, .i1⟩
  | 23 => ⟨S16384, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S16384, .f32⟩
  | 33 => ⟨S5x1, .i32⟩
  | 34 => ⟨S5x100, .f32⟩
  | 35 => ⟨S100x5, .f32⟩
  | 36 => ⟨S16384x5, .f32⟩
  | 37 => ⟨S16384x1, .f32⟩
  | 38 => ⟨S16384x5, .f32⟩
  | 39 => ⟨S16384x5, .f32⟩
  | 40 => ⟨S16384x5, .f32⟩
  | 41 => ⟨S16384x5, .f32⟩
  | 42 => ⟨S_, .f32⟩
  | 43 => ⟨S16384x5, .f32⟩
  | 44 => ⟨S16384x5, .f32⟩
  | 45 => ⟨S16384x5, .f32⟩
  | 46 => ⟨S16384x5, .f32⟩
  | 47 => ⟨S16384x5, .i1⟩
  | 48 => ⟨S16384x5, .f32⟩
  | 49 => ⟨S16384x5, .f32⟩
  | 50 => ⟨S16384x5, .f32⟩
  | 51 => ⟨S16384x5, .f32⟩
  | 52 => ⟨S16384x5, .f32⟩
  | 53 => ⟨S16384x5, .f32⟩
  | 54 => ⟨S16384x5, .f32⟩
  | 55 => ⟨S16384x5, .f32⟩
  | 56 => ⟨S16384x5, .f32⟩
  | 57 => ⟨S_, .f32⟩
  | 58 => ⟨S16384, .f32⟩
  | 59 => ⟨S16384, .f32⟩
  | 60 => ⟨S16384, .f32⟩
  | 61 => ⟨S_, .f32⟩
  | 62 => ⟨S_, .f32⟩
  | 63 => ⟨S_, .f32⟩
  | 64 => ⟨S_, .f32⟩
  | 65 => ⟨S_, .f32⟩
  | 66 => ⟨S16384x100, .f32⟩
  | 67 => ⟨S_, .f32⟩
  | 68 => ⟨S_, .f32⟩
  | 69 => ⟨S_, .f32⟩
  | 70 => ⟨S_, .f32⟩
  | 71 => ⟨S_, .f32⟩
  | 72 => ⟨S16384x100, .f32⟩
  | 73 => ⟨S_, .f32⟩
  | 74 => ⟨S_, .f32⟩
  | 75 => ⟨S_, .f32⟩
  | 76 => ⟨S_, .f32⟩
  | 77 => ⟨S5x100, .f32⟩
  | 78 => ⟨S_, .f32⟩
  | 79 => ⟨S_, .f32⟩
  | 80 => ⟨S_, .f32⟩
  | 81 => ⟨S_, .f32⟩
  | 82 => ⟨S16384x100, .f32⟩
  | 83 => ⟨S_, .f32⟩
  | 84 => ⟨S_, .f32⟩
  | 85 => ⟨S_, .f32⟩
  | 86 => ⟨S_, .f32⟩
  | 87 => ⟨S16384x100, .f32⟩
  | 88 => ⟨S_, .f32⟩
  | 89 => ⟨S_, .f32⟩
  | 90 => ⟨S_, .f32⟩
  | 91 => ⟨S_, .f32⟩
  | 92 => ⟨S5x100, .f32⟩
  | 93 => ⟨S_, .f32⟩
  | 94 => ⟨S_, .f32⟩
  | 95 => ⟨S_, .f32⟩
  | 96 => ⟨S_, .f32⟩
  | 97 => ⟨S16384x100, .f32⟩
  | 98 => ⟨S_, .f32⟩
  | 99 => ⟨S_, .f32⟩
  | 100 => ⟨S_, .f32⟩
  | 101 => ⟨S_, .f32⟩
  | 102 => ⟨S16384x100, .f32⟩
  | 103 => ⟨S_, .f32⟩
  | 104 => ⟨S_, .f32⟩
  | 105 => ⟨S_, .f32⟩
  | 106 => ⟨S_, .f32⟩
  | 107 => ⟨S5x100, .f32⟩
  | 108 => ⟨S_, .f32⟩
  | 109 => ⟨S_, .f32⟩
  | 110 => ⟨S_, .f32⟩
  | 111 => ⟨S_, .f32⟩
  | 112 => ⟨S16384x100, .f32⟩
  | 113 => ⟨S_, .f32⟩
  | 114 => ⟨S_, .f32⟩
  | 115 => ⟨S_, .f32⟩
  | 116 => ⟨S_, .f32⟩
  | 117 => ⟨S16384x100, .f32⟩
  | 118 => ⟨S_, .f32⟩
  | 119 => ⟨S_, .f32⟩
  | 120 => ⟨S_, .f32⟩
  | 121 => ⟨S_, .f32⟩
  | 122 => ⟨S5x100, .f32⟩
  | 123 => ⟨S_, .f32⟩
  | 124 => ⟨S_, .f32⟩
  | 125 => ⟨S_, .f32⟩
  | 126 => ⟨S_, .f32⟩
  | 127 => ⟨S16384x100, .f32⟩
  | _ => ⟨S16384x8, .i32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S16384x100, .f32⟩
  | 5 => ⟨S_, .f32⟩
  | 6 => ⟨S_, .f32⟩
  | 7 => ⟨S_, .f32⟩
  | 8 => ⟨S_, .f32⟩
  | 9 => ⟨S5x100, .f32⟩
  | 10 => ⟨S_, .f32⟩
  | 11 => ⟨S_, .f32⟩
  | 12 => ⟨S_, .f32⟩
  | 13 => ⟨S_, .f32⟩
  | 14 => ⟨S16384x100, .f32⟩
  | 15 => ⟨S_, .f32⟩
  | 16 => ⟨S_, .f32⟩
  | 17 => ⟨S_, .f32⟩
  | 18 => ⟨S_, .f32⟩
  | 19 => ⟨S16384x100, .f32⟩
  | 20 => ⟨S_, .f32⟩
  | 21 => ⟨S_, .f32⟩
  | 22 => ⟨S_, .f32⟩
  | 23 => ⟨S_, .f32⟩
  | 24 => ⟨S5x100, .f32⟩
  | 25 => ⟨S_, .f32⟩
  | 26 => ⟨S_, .f32⟩
  | 27 => ⟨S_, .f32⟩
  | 28 => ⟨S_, .f32⟩
  | 29 => ⟨S16384x100, .f32⟩
  | 30 => ⟨S_, .f32⟩
  | 31 => ⟨S_, .f32⟩
  | 32 => ⟨S_, .f32⟩
  | 33 => ⟨S_, .f32⟩
  | 34 => ⟨S16384x100, .f32⟩
  | 35 => ⟨S_, .f32⟩
  | 36 => ⟨S_, .f32⟩
  | 37 => ⟨S_, .f32⟩
  | 38 => ⟨S_, .f32⟩
  | 39 => ⟨S5x100, .f32⟩
  | 40 => ⟨S_, .f32⟩
  | 41 => ⟨S_, .f32⟩
  | 42 => ⟨S_, .f32⟩
  | 43 => ⟨S_, .f32⟩
  | 44 => ⟨S16384x100, .f32⟩
  | 45 => ⟨S_, .f32⟩
  | 46 => ⟨S_, .f32⟩
  | 47 => ⟨S_, .f32⟩
  | 48 => ⟨S_, .f32⟩
  | 49 => ⟨S16384x100, .f32⟩
  | 50 => ⟨S_, .f32⟩
  | 51 => ⟨S_, .f32⟩
  | 52 => ⟨S_, .f32⟩
  | 53 => ⟨S_, .f32⟩
  | 54 => ⟨S5x100, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | _ => ⟨S16384x8, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16384x8, .i32⟩

abbrev bufTy : (tb : Table) → Fin (tcTables nBuf tb) → BufTy
  | .hbm, ⟨i, _⟩ => hbmTy i
  | _, _ => ⟨S16384x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_v24 : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v30 : Ref sig .tc := ⟨.hbm, 66, rfl⟩
abbrev main_v31 : Ref sig .tc := ⟨.hbm, 67, rfl⟩
abbrev main_call4_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call5_v0 : Ref sig .tc := ⟨.hbm, 76, rfl⟩
abbrev main_call5_call0_cst : Ref sig .tc := ⟨.hbm, 77, rfl⟩
abbrev main_call5_call0_v0 : Ref sig .tc := ⟨.hbm, 78, rfl⟩
abbrev main_call5_call0_v1 : Ref sig .tc := ⟨.hbm, 79, rfl⟩
abbrev main_call5_call0_v2 : Ref sig .tc := ⟨.hbm, 80, rfl⟩
abbrev main_call5_call0_v3 : Ref sig .tc := ⟨.hbm, 81, rfl⟩
abbrev main_call5_call0_v4 : Ref sig .tc := ⟨.hbm, 82, rfl⟩
abbrev main_call5_call0_v5 : Ref sig .tc := ⟨.hbm, 83, rfl⟩
abbrev main_call5_call0_v6 : Ref sig .tc := ⟨.hbm, 84, rfl⟩
abbrev main_call5_call0_v7 : Ref sig .tc := ⟨.hbm, 85, rfl⟩
abbrev main_call5_call0_v8 : Ref sig .tc := ⟨.hbm, 86, rfl⟩
abbrev main_call5_call0_v9 : Ref sig .tc := ⟨.hbm, 87, rfl⟩
abbrev main_call5_call0_v10 : Ref sig .tc := ⟨.hbm, 88, rfl⟩
abbrev main_call5_call0_v11 : Ref sig .tc := ⟨.hbm, 89, rfl⟩
abbrev main_call5_v1 : Ref sig .tc := ⟨.hbm, 90, rfl⟩
abbrev main_v39 : Ref sig .tc := ⟨.hbm, 91, rfl⟩
abbrev main_cst_0 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_1 : Ref sig .tc := ⟨.hbm, 96, rfl⟩
abbrev main_v43 : Ref sig .tc := ⟨.hbm, 97, rfl⟩
abbrev main_cst_2 : Ref sig .tc := ⟨.hbm, 98, rfl⟩
abbrev main_v44 : Ref sig .tc := ⟨.hbm, 99, rfl⟩
abbrev main_cst_3 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_call6_v0 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_call7_v0 : Ref sig .tc := ⟨.hbm, 111, rfl⟩
abbrev main_v54 : Ref sig .tc := ⟨.hbm, 112, rfl⟩
abbrev main_call8_v0 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_4 : Ref sig .tc := ⟨.hbm, 117, rfl⟩
abbrev main_v58 : Ref sig .tc := ⟨.hbm, 118, rfl⟩
abbrev main_v59 : Ref sig .tc := ⟨.hbm, 119, rfl⟩
abbrev main_call9_v0 : Ref sig .tc := ⟨.hbm, 120, rfl⟩
abbrev main_call9_call0_cst : Ref sig .tc := ⟨.hbm, 121, rfl⟩
abbrev main_call9_call0_v0 : Ref sig .tc := ⟨.hbm, 122, rfl⟩
abbrev main_call9_call0_v1 : Ref sig .tc := ⟨.hbm, 123, rfl⟩
abbrev main_call9_call0_v2 : Ref sig .tc := ⟨.hbm, 124, rfl⟩
abbrev main_call9_call0_v3 : Ref sig .tc := ⟨.hbm, 125, rfl⟩
abbrev main_call9_call0_v4 : Ref sig .tc := ⟨.hbm, 126, rfl⟩
abbrev main_call9_call0_v5 : Ref sig .tc := ⟨.hbm, 127, rfl⟩
abbrev main_call9_call0_v6 : Ref sig .tc := ⟨.hbm, 128, rfl⟩
abbrev main_call9_call0_v7 : Ref sig .tc := ⟨.hbm, 129, rfl⟩
abbrev main_call9_call0_v8 : Ref sig .tc := ⟨.hbm, 130, rfl⟩
abbrev main_call9_call0_v9 : Ref sig .tc := ⟨.hbm, 131, rfl⟩
abbrev main_call9_call0_v10 : Ref sig .tc := ⟨.hbm, 132, rfl⟩
abbrev main_call9_call0_v11 : Ref sig .tc := ⟨.hbm, 133, rfl⟩
abbrev main_call9_v1 : Ref sig .tc := ⟨.hbm, 134, rfl⟩
abbrev main_v60 : Ref sig .tc := ⟨.hbm, 135, rfl⟩
abbrev main_v61 : Ref sig .tc := ⟨.hbm, 136, rfl⟩
abbrev main_call10_v0 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_call11_v0 : Ref sig .tc := ⟨.hbm, 145, rfl⟩
abbrev main_call11_call0_cst : Ref sig .tc := ⟨.hbm, 146, rfl⟩
abbrev main_call11_call0_v0 : Ref sig .tc := ⟨.hbm, 147, rfl⟩
abbrev main_call11_call0_v1 : Ref sig .tc := ⟨.hbm, 148, rfl⟩
abbrev main_call11_call0_v2 : Ref sig .tc := ⟨.hbm, 149, rfl⟩
abbrev main_call11_call0_v3 : Ref sig .tc := ⟨.hbm, 150, rfl⟩
abbrev main_call11_call0_v4 : Ref sig .tc := ⟨.hbm, 151, rfl⟩
abbrev main_call11_call0_v5 : Ref sig .tc := ⟨.hbm, 152, rfl⟩
abbrev main_call11_call0_v6 : Ref sig .tc := ⟨.hbm, 153, rfl⟩
abbrev main_call11_call0_v7 : Ref sig .tc := ⟨.hbm, 154, rfl⟩
abbrev main_call11_call0_v8 : Ref sig .tc := ⟨.hbm, 155, rfl⟩
abbrev main_call11_call0_v9 : Ref sig .tc := ⟨.hbm, 156, rfl⟩
abbrev main_call11_call0_v10 : Ref sig .tc := ⟨.hbm, 157, rfl⟩
abbrev main_call11_call0_v11 : Ref sig .tc := ⟨.hbm, 158, rfl⟩
abbrev main_call11_v1 : Ref sig .tc := ⟨.hbm, 159, rfl⟩
abbrev main_v69 : Ref sig .tc := ⟨.hbm, 160, rfl⟩
abbrev main_cst_5 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_cst_6 : Ref sig .tc := ⟨.hbm, 165, rfl⟩
abbrev main_v73 : Ref sig .tc := ⟨.hbm, 166, rfl⟩
abbrev main_cst_7 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_call12_v0 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_call13_v0 : Ref sig .tc := ⟨.hbm, 179, rfl⟩
abbrev main_v84 : Ref sig .tc := ⟨.hbm, 180, rfl⟩
abbrev main_call14_v0 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_cst_8 : Ref sig .tc := ⟨.hbm, 185, rfl⟩
abbrev main_v88 : Ref sig .tc := ⟨.hbm, 186, rfl⟩
abbrev main_v89 : Ref sig .tc := ⟨.hbm, 187, rfl⟩
abbrev main_call15_v0 : Ref sig .tc := ⟨.hbm, 188, rfl⟩
abbrev main_call15_call0_cst : Ref sig .tc := ⟨.hbm, 189, rfl⟩
abbrev main_call15_call0_v0 : Ref sig .tc := ⟨.hbm, 190, rfl⟩
abbrev main_call15_call0_v1 : Ref sig .tc := ⟨.hbm, 191, rfl⟩
abbrev main_call15_call0_v2 : Ref sig .tc := ⟨.hbm, 192, rfl⟩
abbrev main_call15_call0_v3 : Ref sig .tc := ⟨.hbm, 193, rfl⟩
abbrev main_call15_call0_v4 : Ref sig .tc := ⟨.hbm, 194, rfl⟩
abbrev main_call15_call0_v5 : Ref sig .tc := ⟨.hbm, 195, rfl⟩
abbrev main_call15_call0_v6 : Ref sig .tc := ⟨.hbm, 196, rfl⟩
abbrev main_call15_call0_v7 : Ref sig .tc := ⟨.hbm, 197, rfl⟩
abbrev main_call15_call0_v8 : Ref sig .tc := ⟨.hbm, 198, rfl⟩
abbrev main_call15_call0_v9 : Ref sig .tc := ⟨.hbm, 199, rfl⟩
abbrev main_call15_call0_v10 : Ref sig .tc := ⟨.hbm, 200, rfl⟩
abbrev main_call15_call0_v11 : Ref sig .tc := ⟨.hbm, 201, rfl⟩
abbrev main_call15_v1 : Ref sig .tc := ⟨.hbm, 202, rfl⟩
abbrev main_v90 : Ref sig .tc := ⟨.hbm, 203, rfl⟩
abbrev main_v91 : Ref sig .tc := ⟨.hbm, 204, rfl⟩
abbrev main_call16_v0 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_call17_v0 : Ref sig .tc := ⟨.hbm, 213, rfl⟩
abbrev main_call17_call0_cst : Ref sig .tc := ⟨.hbm, 214, rfl⟩
abbrev main_call17_call0_v0 : Ref sig .tc := ⟨.hbm, 215, rfl⟩
abbrev main_call17_call0_v1 : Ref sig .tc := ⟨.hbm, 216, rfl⟩
abbrev main_call17_call0_v2 : Ref sig .tc := ⟨.hbm, 217, rfl⟩
abbrev main_call17_call0_v3 : Ref sig .tc := ⟨.hbm, 218, rfl⟩
abbrev main_call17_call0_v4 : Ref sig .tc := ⟨.hbm, 219, rfl⟩
abbrev main_call17_call0_v5 : Ref sig .tc := ⟨.hbm, 220, rfl⟩
abbrev main_call17_call0_v6 : Ref sig .tc := ⟨.hbm, 221, rfl⟩
abbrev main_call17_call0_v7 : Ref sig .tc := ⟨.hbm, 222, rfl⟩
abbrev main_call17_call0_v8 : Ref sig .tc := ⟨.hbm, 223, rfl⟩
abbrev main_call17_call0_v9 : Ref sig .tc := ⟨.hbm, 224, rfl⟩
abbrev main_call17_call0_v10 : Ref sig .tc := ⟨.hbm, 225, rfl⟩
abbrev main_call17_call0_v11 : Ref sig .tc := ⟨.hbm, 226, rfl⟩
abbrev main_call17_v1 : Ref sig .tc := ⟨.hbm, 227, rfl⟩
abbrev main_v99 : Ref sig .tc := ⟨.hbm, 228, rfl⟩
abbrev main_cst_9 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_cst_10 : Ref sig .tc := ⟨.hbm, 233, rfl⟩
abbrev main_v103 : Ref sig .tc := ⟨.hbm, 234, rfl⟩
abbrev main_cst_11 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_call18_v0 : Ref sig .tc := ⟨.hbm, 242, rfl⟩
abbrev main_v110 : Ref sig .tc := ⟨.hbm, 243, rfl⟩
abbrev main_v111 : Ref sig .tc := ⟨.hbm, 244, rfl⟩
abbrev main_v112 : Ref sig .tc := ⟨.hbm, 245, rfl⟩
abbrev main_v113 : Ref sig .tc := ⟨.hbm, 246, rfl⟩
abbrev main_call19_v0 : Ref sig .tc := ⟨.hbm, 247, rfl⟩
abbrev main_v114 : Ref sig .tc := ⟨.hbm, 248, rfl⟩
abbrev main_call20_v0 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_cst_12 : Ref sig .tc := ⟨.hbm, 253, rfl⟩
abbrev main_v118 : Ref sig .tc := ⟨.hbm, 254, rfl⟩
abbrev main_v119 : Ref sig .tc := ⟨.hbm, 255, rfl⟩
abbrev main_call21_v0 : Ref sig .tc := ⟨.hbm, 256, rfl⟩
abbrev main_call21_call0_cst : Ref sig .tc := ⟨.hbm, 257, rfl⟩
abbrev main_call21_call0_v0 : Ref sig .tc := ⟨.hbm, 258, rfl⟩
abbrev main_call21_call0_v1 : Ref sig .tc := ⟨.hbm, 259, rfl⟩
abbrev main_call21_call0_v2 : Ref sig .tc := ⟨.hbm, 260, rfl⟩
abbrev main_call21_call0_v3 : Ref sig .tc := ⟨.hbm, 261, rfl⟩
abbrev main_call21_call0_v4 : Ref sig .tc := ⟨.hbm, 262, rfl⟩
abbrev main_call21_call0_v5 : Ref sig .tc := ⟨.hbm, 263, rfl⟩
abbrev main_call21_call0_v6 : Ref sig .tc := ⟨.hbm, 264, rfl⟩
abbrev main_call21_call0_v7 : Ref sig .tc := ⟨.hbm, 265, rfl⟩
abbrev main_call21_call0_v8 : Ref sig .tc := ⟨.hbm, 266, rfl⟩
abbrev main_call21_call0_v9 : Ref sig .tc := ⟨.hbm, 267, rfl⟩
abbrev main_call21_call0_v10 : Ref sig .tc := ⟨.hbm, 268, rfl⟩
abbrev main_call21_call0_v11 : Ref sig .tc := ⟨.hbm, 269, rfl⟩
abbrev main_call21_v1 : Ref sig .tc := ⟨.hbm, 270, rfl⟩
abbrev main_v120 : Ref sig .tc := ⟨.hbm, 271, rfl⟩
abbrev main_v121 : Ref sig .tc := ⟨.hbm, 272, rfl⟩
abbrev main_call22_v0 : Ref sig .tc := ⟨.hbm, 273, rfl⟩
abbrev main_v122 : Ref sig .tc := ⟨.hbm, 274, rfl⟩
abbrev main_v123 : Ref sig .tc := ⟨.hbm, 275, rfl⟩
abbrev main_v124 : Ref sig .tc := ⟨.hbm, 276, rfl⟩
abbrev main_v125 : Ref sig .tc := ⟨.hbm, 277, rfl⟩
abbrev main_v126 : Ref sig .tc := ⟨.hbm, 278, rfl⟩
abbrev main_v127 : Ref sig .tc := ⟨.hbm, 279, rfl⟩
abbrev main_v128 : Ref sig .tc := ⟨.hbm, 280, rfl⟩
abbrev main_call23_v0 : Ref sig .tc := ⟨.hbm, 281, rfl⟩
abbrev main_call23_call0_cst : Ref sig .tc := ⟨.hbm, 282, rfl⟩
abbrev main_call23_call0_v0 : Ref sig .tc := ⟨.hbm, 283, rfl⟩
abbrev main_call23_call0_v1 : Ref sig .tc := ⟨.hbm, 284, rfl⟩
abbrev main_call23_call0_v2 : Ref sig .tc := ⟨.hbm, 285, rfl⟩
abbrev main_call23_call0_v3 : Ref sig .tc := ⟨.hbm, 286, rfl⟩
abbrev main_call23_call0_v4 : Ref sig .tc := ⟨.hbm, 287, rfl⟩
abbrev main_call23_call0_v5 : Ref sig .tc := ⟨.hbm, 288, rfl⟩
abbrev main_call23_call0_v6 : Ref sig .tc := ⟨.hbm, 289, rfl⟩
abbrev main_call23_call0_v7 : Ref sig .tc := ⟨.hbm, 290, rfl⟩
abbrev main_call23_call0_v8 : Ref sig .tc := ⟨.hbm, 291, rfl⟩
abbrev main_call23_call0_v9 : Ref sig .tc := ⟨.hbm, 292, rfl⟩
abbrev main_call23_call0_v10 : Ref sig .tc := ⟨.hbm, 293, rfl⟩
abbrev main_call23_call0_v11 : Ref sig .tc := ⟨.hbm, 294, rfl⟩
abbrev main_call23_v1 : Ref sig .tc := ⟨.hbm, 295, rfl⟩
abbrev main_v129 : Ref sig .tc := ⟨.hbm, 296, rfl⟩
abbrev main_cst_13 : Ref sig .tc := ⟨.hbm, 297, rfl⟩
abbrev main_v130 : Ref sig .tc := ⟨.hbm, 298, rfl⟩
abbrev main_v131 : Ref sig .tc := ⟨.hbm, 299, rfl⟩
abbrev main_v132 : Ref sig .tc := ⟨.hbm, 300, rfl⟩
abbrev main_cst_14 : Ref sig .tc := ⟨.hbm, 301, rfl⟩
abbrev main_v133 : Ref sig .tc := ⟨.hbm, 302, rfl⟩
abbrev main_cst_15 : Ref sig .tc := ⟨.hbm, 303, rfl⟩
abbrev main_v134 : Ref sig .tc := ⟨.hbm, 304, rfl⟩
abbrev main_v135 : Ref sig .tc := ⟨.hbm, 305, rfl⟩
abbrev main_v136 : Ref sig .tc := ⟨.hbm, 306, rfl⟩
abbrev main_v137 : Ref sig .tc := ⟨.hbm, 307, rfl⟩
abbrev main_v138 : Ref sig .tc := ⟨.hbm, 308, rfl⟩
abbrev main_v139 : Ref sig .tc := ⟨.hbm, 309, rfl⟩
abbrev main_call24_v0 : Ref sig .tc := ⟨.hbm, 310, rfl⟩
abbrev main_v140 : Ref sig .tc := ⟨.hbm, 311, rfl⟩
abbrev main_v141 : Ref sig .tc := ⟨.hbm, 312, rfl⟩
abbrev main_v142 : Ref sig .tc := ⟨.hbm, 313, rfl⟩
abbrev main_v143 : Ref sig .tc := ⟨.hbm, 314, rfl⟩
abbrev main_call25_v0 : Ref sig .tc := ⟨.hbm, 315, rfl⟩
abbrev main_v144 : Ref sig .tc := ⟨.hbm, 316, rfl⟩
abbrev main_call26_v0 : Ref sig .tc := ⟨.hbm, 317, rfl⟩
abbrev main_v145 : Ref sig .tc := ⟨.hbm, 318, rfl⟩
abbrev main_v146 : Ref sig .tc := ⟨.hbm, 319, rfl⟩
abbrev main_v147 : Ref sig .tc := ⟨.hbm, 320, rfl⟩
abbrev main_cst_16 : Ref sig .tc := ⟨.hbm, 321, rfl⟩
abbrev main_v148 : Ref sig .tc := ⟨.hbm, 322, rfl⟩
abbrev main_v149 : Ref sig .tc := ⟨.hbm, 323, rfl⟩
abbrev main_call27_v0 : Ref sig .tc := ⟨.hbm, 324, rfl⟩
abbrev main_call27_call0_cst : Ref sig .tc := ⟨.hbm, 325, rfl⟩
abbrev main_call27_call0_v0 : Ref sig .tc := ⟨.hbm, 326, rfl⟩
abbrev main_call27_call0_v1 : Ref sig .tc := ⟨.hbm, 327, rfl⟩
abbrev main_call27_call0_v2 : Ref sig .tc := ⟨.hbm, 328, rfl⟩
abbrev main_call27_call0_v3 : Ref sig .tc := ⟨.hbm, 329, rfl⟩
abbrev main_call27_call0_v4 : Ref sig .tc := ⟨.hbm, 330, rfl⟩
abbrev main_call27_call0_v5 : Ref sig .tc := ⟨.hbm, 331, rfl⟩
abbrev main_call27_call0_v6 : Ref sig .tc := ⟨.hbm, 332, rfl⟩
abbrev main_call27_call0_v7 : Ref sig .tc := ⟨.hbm, 333, rfl⟩
abbrev main_call27_call0_v8 : Ref sig .tc := ⟨.hbm, 334, rfl⟩
abbrev main_call27_call0_v9 : Ref sig .tc := ⟨.hbm, 335, rfl⟩
abbrev main_call27_call0_v10 : Ref sig .tc := ⟨.hbm, 336, rfl⟩
abbrev main_call27_call0_v11 : Ref sig .tc := ⟨.hbm, 337, rfl⟩
abbrev main_call27_v1 : Ref sig .tc := ⟨.hbm, 338, rfl⟩
abbrev main_v150 : Ref sig .tc := ⟨.hbm, 339, rfl⟩
abbrev main_v151 : Ref sig .tc := ⟨.hbm, 340, rfl⟩
abbrev main_call28_v0 : Ref sig .tc := ⟨.hbm, 341, rfl⟩
abbrev main_v152 : Ref sig .tc := ⟨.hbm, 342, rfl⟩
abbrev main_v153 : Ref sig .tc := ⟨.hbm, 343, rfl⟩
abbrev main_v154 : Ref sig .tc := ⟨.hbm, 344, rfl⟩
abbrev main_v155 : Ref sig .tc := ⟨.hbm, 345, rfl⟩
abbrev main_v156 : Ref sig .tc := ⟨.hbm, 346, rfl⟩
abbrev main_v157 : Ref sig .tc := ⟨.hbm, 347, rfl⟩
abbrev main_v158 : Ref sig .tc := ⟨.hbm, 348, rfl⟩
abbrev main_call29_v0 : Ref sig .tc := ⟨.hbm, 349, rfl⟩
abbrev main_call29_call0_cst : Ref sig .tc := ⟨.hbm, 350, rfl⟩
abbrev main_call29_call0_v0 : Ref sig .tc := ⟨.hbm, 351, rfl⟩
abbrev main_call29_call0_v1 : Ref sig .tc := ⟨.hbm, 352, rfl⟩
abbrev main_call29_call0_v2 : Ref sig .tc := ⟨.hbm, 353, rfl⟩
abbrev main_call29_call0_v3 : Ref sig .tc := ⟨.hbm, 354, rfl⟩
abbrev main_call29_call0_v4 : Ref sig .tc := ⟨.hbm, 355, rfl⟩
abbrev main_call29_call0_v5 : Ref sig .tc := ⟨.hbm, 356, rfl⟩
abbrev main_call29_call0_v6 : Ref sig .tc := ⟨.hbm, 357, rfl⟩
abbrev main_call29_call0_v7 : Ref sig .tc := ⟨.hbm, 358, rfl⟩
abbrev main_call29_call0_v8 : Ref sig .tc := ⟨.hbm, 359, rfl⟩
abbrev main_call29_call0_v9 : Ref sig .tc := ⟨.hbm, 360, rfl⟩
abbrev main_call29_call0_v10 : Ref sig .tc := ⟨.hbm, 361, rfl⟩
abbrev main_call29_call0_v11 : Ref sig .tc := ⟨.hbm, 362, rfl⟩
abbrev main_call29_v1 : Ref sig .tc := ⟨.hbm, 363, rfl⟩
abbrev main_v159 : Ref sig .tc := ⟨.hbm, 364, rfl⟩
abbrev main_cst_17 : Ref sig .tc := ⟨.hbm, 365, rfl⟩
abbrev main_v160 : Ref sig .tc := ⟨.hbm, 366, rfl⟩
abbrev main_v161 : Ref sig .tc := ⟨.hbm, 367, rfl⟩
abbrev main_v162 : Ref sig .tc := ⟨.hbm, 368, rfl⟩
abbrev main_cst_18 : Ref sig .tc := ⟨.hbm, 369, rfl⟩
abbrev main_v163 : Ref sig .tc := ⟨.hbm, 370, rfl⟩
abbrev main_cst_19 : Ref sig .tc := ⟨.hbm, 371, rfl⟩
abbrev main_v164 : Ref sig .tc := ⟨.hbm, 372, rfl⟩
abbrev main_v165 : Ref sig .tc := ⟨.hbm, 373, rfl⟩
abbrev main_v166 : Ref sig .tc := ⟨.hbm, 374, rfl⟩
abbrev main_v167 : Ref sig .tc := ⟨.hbm, 375, rfl⟩
abbrev main_v168 : Ref sig .tc := ⟨.hbm, 376, rfl⟩
abbrev main_v169 : Ref sig .tc := ⟨.hbm, 377, rfl⟩
abbrev main_call30_v0 : Ref sig .tc := ⟨.hbm, 378, rfl⟩
abbrev main_v170 : Ref sig .tc := ⟨.hbm, 379, rfl⟩
abbrev main_v171 : Ref sig .tc := ⟨.hbm, 380, rfl⟩
abbrev main_v172 : Ref sig .tc := ⟨.hbm, 381, rfl⟩
abbrev main_v173 : Ref sig .tc := ⟨.hbm, 382, rfl⟩
abbrev main_call31_v0 : Ref sig .tc := ⟨.hbm, 383, rfl⟩
abbrev main_v174 : Ref sig .tc := ⟨.hbm, 384, rfl⟩
abbrev main_call32_v0 : Ref sig .tc := ⟨.hbm, 385, rfl⟩
abbrev main_v175 : Ref sig .tc := ⟨.hbm, 386, rfl⟩
abbrev main_v176 : Ref sig .tc := ⟨.hbm, 387, rfl⟩
abbrev main_v177 : Ref sig .tc := ⟨.hbm, 388, rfl⟩
abbrev main_cst_20 : Ref sig .tc := ⟨.hbm, 389, rfl⟩
abbrev main_v178 : Ref sig .tc := ⟨.hbm, 390, rfl⟩
abbrev main_v179 : Ref sig .tc := ⟨.hbm, 391, rfl⟩
abbrev main_call33_v0 : Ref sig .tc := ⟨.hbm, 392, rfl⟩
abbrev main_call33_call0_cst : Ref sig .tc := ⟨.hbm, 393, rfl⟩
abbrev main_call33_call0_v0 : Ref sig .tc := ⟨.hbm, 394, rfl⟩
abbrev main_call33_call0_v1 : Ref sig .tc := ⟨.hbm, 395, rfl⟩
abbrev main_call33_call0_v2 : Ref sig .tc := ⟨.hbm, 396, rfl⟩
abbrev main_call33_call0_v3 : Ref sig .tc := ⟨.hbm, 397, rfl⟩
abbrev main_call33_call0_v4 : Ref sig .tc := ⟨.hbm, 398, rfl⟩
abbrev main_call33_call0_v5 : Ref sig .tc := ⟨.hbm, 399, rfl⟩
abbrev main_call33_call0_v6 : Ref sig .tc := ⟨.hbm, 400, rfl⟩
abbrev main_call33_call0_v7 : Ref sig .tc := ⟨.hbm, 401, rfl⟩
abbrev main_call33_call0_v8 : Ref sig .tc := ⟨.hbm, 402, rfl⟩
abbrev main_call33_call0_v9 : Ref sig .tc := ⟨.hbm, 403, rfl⟩
abbrev main_call33_call0_v10 : Ref sig .tc := ⟨.hbm, 404, rfl⟩
abbrev main_call33_call0_v11 : Ref sig .tc := ⟨.hbm, 405, rfl⟩
abbrev main_call33_v1 : Ref sig .tc := ⟨.hbm, 406, rfl⟩
abbrev main_v180 : Ref sig .tc := ⟨.hbm, 407, rfl⟩
abbrev main_v181 : Ref sig .tc := ⟨.hbm, 408, rfl⟩
abbrev main_call34_v0 : Ref sig .tc := ⟨.hbm, 409, rfl⟩
abbrev main_v182 : Ref sig .tc := ⟨.hbm, 410, rfl⟩
abbrev main_v183 : Ref sig .tc := ⟨.hbm, 411, rfl⟩
abbrev main_v184 : Ref sig .tc := ⟨.hbm, 412, rfl⟩
abbrev main_v185 : Ref sig .tc := ⟨.hbm, 413, rfl⟩
abbrev main_v186 : Ref sig .tc := ⟨.hbm, 414, rfl⟩
abbrev main_v187 : Ref sig .tc := ⟨.hbm, 415, rfl⟩
abbrev main_v188 : Ref sig .tc := ⟨.hbm, 416, rfl⟩
abbrev main_call35_v0 : Ref sig .tc := ⟨.hbm, 417, rfl⟩
abbrev main_call35_call0_cst : Ref sig .tc := ⟨.hbm, 418, rfl⟩
abbrev main_call35_call0_v0 : Ref sig .tc := ⟨.hbm, 419, rfl⟩
abbrev main_call35_call0_v1 : Ref sig .tc := ⟨.hbm, 420, rfl⟩
abbrev main_call35_call0_v2 : Ref sig .tc := ⟨.hbm, 421, rfl⟩
abbrev main_call35_call0_v3 : Ref sig .tc := ⟨.hbm, 422, rfl⟩
abbrev main_call35_call0_v4 : Ref sig .tc := ⟨.hbm, 423, rfl⟩
abbrev main_call35_call0_v5 : Ref sig .tc := ⟨.hbm, 424, rfl⟩
abbrev main_call35_call0_v6 : Ref sig .tc := ⟨.hbm, 425, rfl⟩
abbrev main_call35_call0_v7 : Ref sig .tc := ⟨.hbm, 426, rfl⟩
abbrev main_call35_call0_v8 : Ref sig .tc := ⟨.hbm, 427, rfl⟩
abbrev main_call35_call0_v9 : Ref sig .tc := ⟨.hbm, 428, rfl⟩
abbrev main_call35_call0_v10 : Ref sig .tc := ⟨.hbm, 429, rfl⟩
abbrev main_call35_call0_v11 : Ref sig .tc := ⟨.hbm, 430, rfl⟩
abbrev main_call35_v1 : Ref sig .tc := ⟨.hbm, 431, rfl⟩
abbrev main_v189 : Ref sig .tc := ⟨.hbm, 432, rfl⟩
abbrev main_cst_21 : Ref sig .tc := ⟨.hbm, 433, rfl⟩
abbrev main_v190 : Ref sig .tc := ⟨.hbm, 434, rfl⟩
abbrev main_v191 : Ref sig .tc := ⟨.hbm, 435, rfl⟩
abbrev main_v192 : Ref sig .tc := ⟨.hbm, 436, rfl⟩
abbrev main_cst_22 : Ref sig .tc := ⟨.hbm, 437, rfl⟩
abbrev main_v193 : Ref sig .tc := ⟨.hbm, 438, rfl⟩
abbrev main_cst_23 : Ref sig .tc := ⟨.hbm, 439, rfl⟩
abbrev main_v194 : Ref sig .tc := ⟨.hbm, 440, rfl⟩
abbrev main_v195 : Ref sig .tc := ⟨.hbm, 441, rfl⟩
abbrev main_v196 : Ref sig .tc := ⟨.hbm, 442, rfl⟩
abbrev main_v197 : Ref sig .tc := ⟨.hbm, 443, rfl⟩
abbrev main_v198 : Ref sig .tc := ⟨.hbm, 444, rfl⟩
abbrev main_v199 : Ref sig .tc := ⟨.hbm, 445, rfl⟩
abbrev main_call36_v0 : Ref sig .tc := ⟨.hbm, 446, rfl⟩
abbrev main_v200 : Ref sig .tc := ⟨.hbm, 447, rfl⟩
abbrev main_v201 : Ref sig .tc := ⟨.hbm, 448, rfl⟩
abbrev main_v202 : Ref sig .tc := ⟨.hbm, 449, rfl⟩
abbrev main_v203 : Ref sig .tc := ⟨.hbm, 450, rfl⟩
abbrev main_call37_v0 : Ref sig .tc := ⟨.hbm, 451, rfl⟩
abbrev main_v204 : Ref sig .tc := ⟨.hbm, 452, rfl⟩
abbrev main_call38_v0 : Ref sig .tc := ⟨.hbm, 453, rfl⟩
abbrev main_v205 : Ref sig .tc := ⟨.hbm, 454, rfl⟩
abbrev main_v206 : Ref sig .tc := ⟨.hbm, 455, rfl⟩
abbrev main_v207 : Ref sig .tc := ⟨.hbm, 456, rfl⟩
abbrev main_cst_24 : Ref sig .tc := ⟨.hbm, 457, rfl⟩
abbrev main_v208 : Ref sig .tc := ⟨.hbm, 458, rfl⟩
abbrev main_v209 : Ref sig .tc := ⟨.hbm, 459, rfl⟩
abbrev main_call39_v0 : Ref sig .tc := ⟨.hbm, 460, rfl⟩
abbrev main_call39_call0_cst : Ref sig .tc := ⟨.hbm, 461, rfl⟩
abbrev main_call39_call0_v0 : Ref sig .tc := ⟨.hbm, 462, rfl⟩
abbrev main_call39_call0_v1 : Ref sig .tc := ⟨.hbm, 463, rfl⟩
abbrev main_call39_call0_v2 : Ref sig .tc := ⟨.hbm, 464, rfl⟩
abbrev main_call39_call0_v3 : Ref sig .tc := ⟨.hbm, 465, rfl⟩
abbrev main_call39_call0_v4 : Ref sig .tc := ⟨.hbm, 466, rfl⟩
abbrev main_call39_call0_v5 : Ref sig .tc := ⟨.hbm, 467, rfl⟩
abbrev main_call39_call0_v6 : Ref sig .tc := ⟨.hbm, 468, rfl⟩
abbrev main_call39_call0_v7 : Ref sig .tc := ⟨.hbm, 469, rfl⟩
abbrev main_call39_call0_v8 : Ref sig .tc := ⟨.hbm, 470, rfl⟩
abbrev main_call39_call0_v9 : Ref sig .tc := ⟨.hbm, 471, rfl⟩
abbrev main_call39_call0_v10 : Ref sig .tc := ⟨.hbm, 472, rfl⟩
abbrev main_call39_call0_v11 : Ref sig .tc := ⟨.hbm, 473, rfl⟩
abbrev main_call39_v1 : Ref sig .tc := ⟨.hbm, 474, rfl⟩
abbrev main_v210 : Ref sig .tc := ⟨.hbm, 475, rfl⟩
abbrev main_v211 : Ref sig .tc := ⟨.hbm, 476, rfl⟩
abbrev main_call40_v0 : Ref sig .tc := ⟨.hbm, 477, rfl⟩
abbrev main_v212 : Ref sig .tc := ⟨.hbm, 478, rfl⟩
abbrev main_v213 : Ref sig .tc := ⟨.hbm, 479, rfl⟩
abbrev main_v214 : Ref sig .tc := ⟨.hbm, 480, rfl⟩
abbrev main_v215 : Ref sig .tc := ⟨.hbm, 481, rfl⟩
abbrev main_v216 : Ref sig .tc := ⟨.hbm, 482, rfl⟩
abbrev main_v217 : Ref sig .tc := ⟨.hbm, 483, rfl⟩
abbrev main_v218 : Ref sig .tc := ⟨.hbm, 484, rfl⟩
abbrev main_call41_v0 : Ref sig .tc := ⟨.hbm, 485, rfl⟩
abbrev main_call41_call0_cst : Ref sig .tc := ⟨.hbm, 486, rfl⟩
abbrev main_call41_call0_v0 : Ref sig .tc := ⟨.hbm, 487, rfl⟩
abbrev main_call41_call0_v1 : Ref sig .tc := ⟨.hbm, 488, rfl⟩
abbrev main_call41_call0_v2 : Ref sig .tc := ⟨.hbm, 489, rfl⟩
abbrev main_call41_call0_v3 : Ref sig .tc := ⟨.hbm, 490, rfl⟩
abbrev main_call41_call0_v4 : Ref sig .tc := ⟨.hbm, 491, rfl⟩
abbrev main_call41_call0_v5 : Ref sig .tc := ⟨.hbm, 492, rfl⟩
abbrev main_call41_call0_v6 : Ref sig .tc := ⟨.hbm, 493, rfl⟩
abbrev main_call41_call0_v7 : Ref sig .tc := ⟨.hbm, 494, rfl⟩
abbrev main_call41_call0_v8 : Ref sig .tc := ⟨.hbm, 495, rfl⟩
abbrev main_call41_call0_v9 : Ref sig .tc := ⟨.hbm, 496, rfl⟩
abbrev main_call41_call0_v10 : Ref sig .tc := ⟨.hbm, 497, rfl⟩
abbrev main_call41_call0_v11 : Ref sig .tc := ⟨.hbm, 498, rfl⟩
abbrev main_call41_v1 : Ref sig .tc := ⟨.hbm, 499, rfl⟩
abbrev main_v219 : Ref sig .tc := ⟨.hbm, 500, rfl⟩
abbrev main_cst_25 : Ref sig .tc := ⟨.hbm, 501, rfl⟩
abbrev main_v220 : Ref sig .tc := ⟨.hbm, 502, rfl⟩
abbrev main_v221 : Ref sig .tc := ⟨.hbm, 503, rfl⟩
abbrev main_v222 : Ref sig .tc := ⟨.hbm, 504, rfl⟩
abbrev main_cst_26 : Ref sig .tc := ⟨.hbm, 505, rfl⟩
abbrev main_v223 : Ref sig .tc := ⟨.hbm, 506, rfl⟩
abbrev main_cst_27 : Ref sig .tc := ⟨.hbm, 507, rfl⟩
abbrev main_v224 : Ref sig .tc := ⟨.hbm, 508, rfl⟩
abbrev main_v225 : Ref sig .tc := ⟨.hbm, 509, rfl⟩
abbrev main_v226 : Ref sig .tc := ⟨.hbm, 510, rfl⟩
abbrev main_v227 : Ref sig .tc := ⟨.hbm, 511, rfl⟩
abbrev main_v228 : Ref sig .tc := ⟨.hbm, 512, rfl⟩
abbrev main_v229 : Ref sig .tc := ⟨.hbm, 513, rfl⟩
abbrev main_call42_v0 : Ref sig .tc := ⟨.hbm, 514, rfl⟩
abbrev main_v230 : Ref sig .tc := ⟨.hbm, 515, rfl⟩
abbrev main_v231 : Ref sig .tc := ⟨.hbm, 516, rfl⟩
abbrev main_v232 : Ref sig .tc := ⟨.hbm, 517, rfl⟩
abbrev main_v233 : Ref sig .tc := ⟨.hbm, 518, rfl⟩
abbrev main_call43_v0 : Ref sig .tc := ⟨.hbm, 519, rfl⟩
abbrev main_v234 : Ref sig .tc := ⟨.hbm, 520, rfl⟩
abbrev main_call44_v0 : Ref sig .tc := ⟨.hbm, 521, rfl⟩
abbrev main_v235 : Ref sig .tc := ⟨.hbm, 522, rfl⟩
abbrev main_v236 : Ref sig .tc := ⟨.hbm, 523, rfl⟩
abbrev main_v237 : Ref sig .tc := ⟨.hbm, 524, rfl⟩
abbrev main_cst_28 : Ref sig .tc := ⟨.hbm, 525, rfl⟩
abbrev main_v238 : Ref sig .tc := ⟨.hbm, 526, rfl⟩
abbrev main_v239 : Ref sig .tc := ⟨.hbm, 527, rfl⟩
abbrev main_call45_v0 : Ref sig .tc := ⟨.hbm, 528, rfl⟩
abbrev main_call45_call0_cst : Ref sig .tc := ⟨.hbm, 529, rfl⟩
abbrev main_call45_call0_v0 : Ref sig .tc := ⟨.hbm, 530, rfl⟩
abbrev main_call45_call0_v1 : Ref sig .tc := ⟨.hbm, 531, rfl⟩
abbrev main_call45_call0_v2 : Ref sig .tc := ⟨.hbm, 532, rfl⟩
abbrev main_call45_call0_v3 : Ref sig .tc := ⟨.hbm, 533, rfl⟩
abbrev main_call45_call0_v4 : Ref sig .tc := ⟨.hbm, 534, rfl⟩
abbrev main_call45_call0_v5 : Ref sig .tc := ⟨.hbm, 535, rfl⟩
abbrev main_call45_call0_v6 : Ref sig .tc := ⟨.hbm, 536, rfl⟩
abbrev main_call45_call0_v7 : Ref sig .tc := ⟨.hbm, 537, rfl⟩
abbrev main_call45_call0_v8 : Ref sig .tc := ⟨.hbm, 538, rfl⟩
abbrev main_call45_call0_v9 : Ref sig .tc := ⟨.hbm, 539, rfl⟩
abbrev main_call45_call0_v10 : Ref sig .tc := ⟨.hbm, 540, rfl⟩
abbrev main_call45_call0_v11 : Ref sig .tc := ⟨.hbm, 541, rfl⟩
abbrev main_call45_v1 : Ref sig .tc := ⟨.hbm, 542, rfl⟩
abbrev main_v240 : Ref sig .tc := ⟨.hbm, 543, rfl⟩
abbrev main_v241 : Ref sig .tc := ⟨.hbm, 544, rfl⟩
abbrev main_call46_v0 : Ref sig .tc := ⟨.hbm, 545, rfl⟩
abbrev main_v242 : Ref sig .tc := ⟨.hbm, 546, rfl⟩
abbrev main_v243 : Ref sig .tc := ⟨.hbm, 547, rfl⟩
abbrev main_v244 : Ref sig .tc := ⟨.hbm, 548, rfl⟩
abbrev main_v245 : Ref sig .tc := ⟨.hbm, 549, rfl⟩
abbrev main_v246 : Ref sig .tc := ⟨.hbm, 550, rfl⟩
abbrev main_v247 : Ref sig .tc := ⟨.hbm, 551, rfl⟩
abbrev main_v248 : Ref sig .tc := ⟨.hbm, 552, rfl⟩
abbrev main_call47_v0 : Ref sig .tc := ⟨.hbm, 553, rfl⟩
abbrev main_call47_call0_cst : Ref sig .tc := ⟨.hbm, 554, rfl⟩
abbrev main_call47_call0_v0 : Ref sig .tc := ⟨.hbm, 555, rfl⟩
abbrev main_call47_call0_v1 : Ref sig .tc := ⟨.hbm, 556, rfl⟩
abbrev main_call47_call0_v2 : Ref sig .tc := ⟨.hbm, 557, rfl⟩
abbrev main_call47_call0_v3 : Ref sig .tc := ⟨.hbm, 558, rfl⟩
abbrev main_call47_call0_v4 : Ref sig .tc := ⟨.hbm, 559, rfl⟩
abbrev main_call47_call0_v5 : Ref sig .tc := ⟨.hbm, 560, rfl⟩
abbrev main_call47_call0_v6 : Ref sig .tc := ⟨.hbm, 561, rfl⟩
abbrev main_call47_call0_v7 : Ref sig .tc := ⟨.hbm, 562, rfl⟩
abbrev main_call47_call0_v8 : Ref sig .tc := ⟨.hbm, 563, rfl⟩
abbrev main_call47_call0_v9 : Ref sig .tc := ⟨.hbm, 564, rfl⟩
abbrev main_call47_call0_v10 : Ref sig .tc := ⟨.hbm, 565, rfl⟩
abbrev main_call47_call0_v11 : Ref sig .tc := ⟨.hbm, 566, rfl⟩
abbrev main_call47_v1 : Ref sig .tc := ⟨.hbm, 567, rfl⟩
abbrev main_v249 : Ref sig .tc := ⟨.hbm, 568, rfl⟩
abbrev main_cst_29 : Ref sig .tc := ⟨.hbm, 569, rfl⟩
abbrev main_v250 : Ref sig .tc := ⟨.hbm, 570, rfl⟩
abbrev main_v251 : Ref sig .tc := ⟨.hbm, 571, rfl⟩
abbrev main_v252 : Ref sig .tc := ⟨.hbm, 572, rfl⟩
abbrev main_cst_30 : Ref sig .tc := ⟨.hbm, 573, rfl⟩
abbrev main_v253 : Ref sig .tc := ⟨.hbm, 574, rfl⟩
abbrev main_cst_31 : Ref sig .tc := ⟨.hbm, 575, rfl⟩
abbrev main_v254 : Ref sig .tc := ⟨.hbm, 576, rfl⟩
abbrev main_v255 : Ref sig .tc := ⟨.hbm, 577, rfl⟩
abbrev main_call48_v0 : Ref sig .tc := ⟨.hbm, 578, rfl⟩
abbrev main_call48_cst : Ref sig .tc := ⟨.hbm, 579, rfl⟩
abbrev main_call48_v1 : Ref sig .tc := ⟨.hbm, 580, rfl⟩
abbrev main_v256 : Ref sig .tc := ⟨.hbm, 581, rfl⟩
abbrev main_cst_32 : Ref sig .tc := ⟨.hbm, 582, rfl⟩
abbrev main_v257 : Ref sig .tc := ⟨.hbm, 583, rfl⟩
abbrev main_call49_v0 : Ref sig .tc := ⟨.hbm, 584, rfl⟩
abbrev main_call49_cst : Ref sig .tc := ⟨.hbm, 585, rfl⟩
abbrev main_call49_v1 : Ref sig .tc := ⟨.hbm, 586, rfl⟩
abbrev main_v258 : Ref sig .tc := ⟨.hbm, 587, rfl⟩
abbrev main_v259 : Ref sig .tc := ⟨.hbm, 588, rfl⟩
abbrev main_call50_v0 : Ref sig .tc := ⟨.hbm, 589, rfl⟩
abbrev main_call50_cst : Ref sig .tc := ⟨.hbm, 590, rfl⟩
abbrev main_call50_v1 : Ref sig .tc := ⟨.hbm, 591, rfl⟩
abbrev main_v260 : Ref sig .tc := ⟨.hbm, 592, rfl⟩
abbrev main_v261 : Ref sig .tc := ⟨.hbm, 593, rfl⟩
abbrev main_call51_v0 : Ref sig .tc := ⟨.hbm, 594, rfl⟩
abbrev main_call51_cst : Ref sig .tc := ⟨.hbm, 595, rfl⟩
abbrev main_call51_v1 : Ref sig .tc := ⟨.hbm, 596, rfl⟩
abbrev main_v262 : Ref sig .tc := ⟨.hbm, 597, rfl⟩
abbrev main_v263 : Ref sig .tc := ⟨.hbm, 598, rfl⟩
abbrev main_call52_v0 : Ref sig .tc := ⟨.hbm, 599, rfl⟩
abbrev main_call52_cst : Ref sig .tc := ⟨.hbm, 600, rfl⟩
abbrev main_call52_v1 : Ref sig .tc := ⟨.hbm, 601, rfl⟩
abbrev main_v264 : Ref sig .tc := ⟨.hbm, 602, rfl⟩
abbrev main_v265 : Ref sig .tc := ⟨.hbm, 603, rfl⟩
abbrev main_call53_v0 : Ref sig .tc := ⟨.hbm, 604, rfl⟩
abbrev main_call53_cst : Ref sig .tc := ⟨.hbm, 605, rfl⟩
abbrev main_call53_v1 : Ref sig .tc := ⟨.hbm, 606, rfl⟩
abbrev main_v266 : Ref sig .tc := ⟨.hbm, 607, rfl⟩
abbrev main_v267 : Ref sig .tc := ⟨.hbm, 608, rfl⟩
abbrev main_call54_v0 : Ref sig .tc := ⟨.hbm, 609, rfl⟩
abbrev main_call54_cst : Ref sig .tc := ⟨.hbm, 610, rfl⟩
abbrev main_call54_v1 : Ref sig .tc := ⟨.hbm, 611, rfl⟩
abbrev main_v268 : Ref sig .tc := ⟨.hbm, 612, rfl⟩
abbrev main_v269 : Ref sig .tc := ⟨.hbm, 613, rfl⟩
abbrev main_call55_v0 : Ref sig .tc := ⟨.hbm, 614, rfl⟩
abbrev main_call55_cst : Ref sig .tc := ⟨.hbm, 615, rfl⟩
abbrev main_call55_v1 : Ref sig .tc := ⟨.hbm, 616, rfl⟩
abbrev main_v270 : Ref sig .tc := ⟨.hbm, 617, rfl⟩
abbrev main_v271 : Ref sig .tc := ⟨.hbm, 618, rfl⟩
abbrev main_call56_v0 : Ref sig .tc := ⟨.hbm, 619, rfl⟩
abbrev main_call56_cst : Ref sig .tc := ⟨.hbm, 620, rfl⟩
abbrev main_call56_v1 : Ref sig .tc := ⟨.hbm, 621, rfl⟩
abbrev main_v272 : Ref sig .tc := ⟨.hbm, 622, rfl⟩
abbrev main_v273 : Ref sig .tc := ⟨.hbm, 623, rfl⟩
abbrev main_call57_v0 : Ref sig .tc := ⟨.hbm, 624, rfl⟩
abbrev main_call57_cst : Ref sig .tc := ⟨.hbm, 625, rfl⟩
abbrev main_call57_v1 : Ref sig .tc := ⟨.hbm, 626, rfl⟩
abbrev main_v274 : Ref sig .tc := ⟨.hbm, 627, rfl⟩
abbrev main_v275 : Ref sig .tc := ⟨.hbm, 628, rfl⟩
abbrev main_call58_v0 : Ref sig .tc := ⟨.hbm, 629, rfl⟩
abbrev main_call58_cst : Ref sig .tc := ⟨.hbm, 630, rfl⟩
abbrev main_call58_v1 : Ref sig .tc := ⟨.hbm, 631, rfl⟩
abbrev main_v276 : Ref sig .tc := ⟨.hbm, 632, rfl⟩
abbrev main_v277 : Ref sig .tc := ⟨.hbm, 633, rfl⟩
abbrev main_call59_v0 : Ref sig .tc := ⟨.hbm, 634, rfl⟩
abbrev main_call59_cst : Ref sig .tc := ⟨.hbm, 635, rfl⟩
abbrev main_call59_v1 : Ref sig .tc := ⟨.hbm, 636, rfl⟩
abbrev main_v278 : Ref sig .tc := ⟨.hbm, 637, rfl⟩
abbrev main_v279 : Ref sig .tc := ⟨.hbm, 638, rfl⟩
abbrev main_call60_v0 : Ref sig .tc := ⟨.hbm, 639, rfl⟩
abbrev main_call60_cst : Ref sig .tc := ⟨.hbm, 640, rfl⟩
abbrev main_call60_v1 : Ref sig .tc := ⟨.hbm, 641, rfl⟩
abbrev main_v280 : Ref sig .tc := ⟨.hbm, 642, rfl⟩
abbrev main_v281 : Ref sig .tc := ⟨.hbm, 643, rfl⟩
abbrev main_call61_v0 : Ref sig .tc := ⟨.hbm, 644, rfl⟩
abbrev main_call61_cst : Ref sig .tc := ⟨.hbm, 645, rfl⟩
abbrev main_call61_v1 : Ref sig .tc := ⟨.hbm, 646, rfl⟩
abbrev main_v282 : Ref sig .tc := ⟨.hbm, 647, rfl⟩
abbrev main_v283 : Ref sig .tc := ⟨.hbm, 648, rfl⟩
abbrev main_call62_v0 : Ref sig .tc := ⟨.hbm, 649, rfl⟩
abbrev main_call62_cst : Ref sig .tc := ⟨.hbm, 650, rfl⟩
abbrev main_call62_v1 : Ref sig .tc := ⟨.hbm, 651, rfl⟩
abbrev main_v284 : Ref sig .tc := ⟨.hbm, 652, rfl⟩
abbrev main_v285 : Ref sig .tc := ⟨.hbm, 653, rfl⟩
abbrev main_call63_v0 : Ref sig .tc := ⟨.hbm, 654, rfl⟩
abbrev main_call63_cst : Ref sig .tc := ⟨.hbm, 655, rfl⟩
abbrev main_call63_v1 : Ref sig .tc := ⟨.hbm, 656, rfl⟩
abbrev main_v286 : Ref sig .tc := ⟨.hbm, 657, rfl⟩
abbrev main_v287 : Ref sig .tc := ⟨.hbm, 658, rfl⟩
abbrev main_call64_v0 : Ref sig .tc := ⟨.hbm, 659, rfl⟩
abbrev main_call64_cst : Ref sig .tc := ⟨.hbm, 660, rfl⟩
abbrev main_call64_v1 : Ref sig .tc := ⟨.hbm, 661, rfl⟩
abbrev main_v288 : Ref sig .tc := ⟨.hbm, 662, rfl⟩
abbrev main_v289 : Ref sig .tc := ⟨.hbm, 663, rfl⟩
abbrev main_call65_v0 : Ref sig .tc := ⟨.hbm, 664, rfl⟩
abbrev main_call65_cst : Ref sig .tc := ⟨.hbm, 665, rfl⟩
abbrev main_call65_v1 : Ref sig .tc := ⟨.hbm, 666, rfl⟩
abbrev main_v290 : Ref sig .tc := ⟨.hbm, 667, rfl⟩
abbrev main_v291 : Ref sig .tc := ⟨.hbm, 668, rfl⟩
abbrev main_call66_v0 : Ref sig .tc := ⟨.hbm, 669, rfl⟩
abbrev main_call66_cst : Ref sig .tc := ⟨.hbm, 670, rfl⟩
abbrev main_call66_v1 : Ref sig .tc := ⟨.hbm, 671, rfl⟩
abbrev main_v292 : Ref sig .tc := ⟨.hbm, 672, rfl⟩
abbrev main_v293 : Ref sig .tc := ⟨.hbm, 673, rfl⟩
abbrev main_call67_v0 : Ref sig .tc := ⟨.hbm, 674, rfl⟩
abbrev main_call67_cst : Ref sig .tc := ⟨.hbm, 675, rfl⟩
abbrev main_call67_v1 : Ref sig .tc := ⟨.hbm, 676, rfl⟩
abbrev main_v294 : Ref sig .tc := ⟨.hbm, 677, rfl⟩
abbrev main_v295 : Ref sig .tc := ⟨.hbm, 678, rfl⟩
abbrev main_call68_v0 : Ref sig .tc := ⟨.hbm, 679, rfl⟩
abbrev main_call68_cst : Ref sig .tc := ⟨.hbm, 680, rfl⟩
abbrev main_call68_v1 : Ref sig .tc := ⟨.hbm, 681, rfl⟩
abbrev main_v296 : Ref sig .tc := ⟨.hbm, 682, rfl⟩
abbrev main_v297 : Ref sig .tc := ⟨.hbm, 683, rfl⟩
abbrev main_call69_v0 : Ref sig .tc := ⟨.hbm, 684, rfl⟩
abbrev main_call69_cst : Ref sig .tc := ⟨.hbm, 685, rfl⟩
abbrev main_call69_v1 : Ref sig .tc := ⟨.hbm, 686, rfl⟩
abbrev main_v298 : Ref sig .tc := ⟨.hbm, 687, rfl⟩
abbrev main_v299 : Ref sig .tc := ⟨.hbm, 688, rfl⟩
abbrev main_call70_v0 : Ref sig .tc := ⟨.hbm, 689, rfl⟩
abbrev main_call70_cst : Ref sig .tc := ⟨.hbm, 690, rfl⟩
abbrev main_call70_v1 : Ref sig .tc := ⟨.hbm, 691, rfl⟩
abbrev main_v300 : Ref sig .tc := ⟨.hbm, 692, rfl⟩
abbrev main_v301 : Ref sig .tc := ⟨.hbm, 693, rfl⟩
abbrev main_call71_v0 : Ref sig .tc := ⟨.hbm, 694, rfl⟩
abbrev main_call71_cst : Ref sig .tc := ⟨.hbm, 695, rfl⟩
abbrev main_call71_v1 : Ref sig .tc := ⟨.hbm, 696, rfl⟩
abbrev main_v302 : Ref sig .tc := ⟨.hbm, 697, rfl⟩
abbrev main_v303 : Ref sig .tc := ⟨.hbm, 698, rfl⟩
abbrev main_cst_33 : Ref sig .tc := ⟨.hbm, 699, rfl⟩
abbrev main_v304 : Ref sig .tc := ⟨.hbm, 700, rfl⟩
abbrev main_v305 : Ref sig .tc := ⟨.hbm, 701, rfl⟩

abbrev nD : Nat := 1
abbrev τ : Topo := Topo.v7x

variable {F : FTy → Type} [FloatOps F]
-- ==== Proof.KernelIdeal.Setup.lean ====
/- What the two runs of the kernel's body share: the body's two branch conditions decided at the two grid points,
   the staging and scratch buffers by name, and how the four scratch buffers are held between the points. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body -/

/-- The condition of the body's first branch: this is the first grid point. -/
abbrev first (i : grid0.Coords) : Prop :=
  Scalar.cmpi .ne (Scalar.extui (Scalar.cmpi .eq (BitVec.ofNat 32 (i 0).val) 0#32)) 0#32 = 1#1

/-- The condition of the body's second branch: this is the last grid point. -/
abbrev last (i : grid0.Coords) : Prop := k0_cond2 i = 1#1

theorem coord_val (t : Fin cfg0.N) : (grid0.coords t 0).val = t.val := by
  have ht : t.val < 2 := Nat.lt_of_lt_of_eq t.isLt N_0
  rw [show (grid0.coords t 0).val = t.val / 1 % 2 from Pipeline.Grid.coords_val t 0 (by decide) rfl]
  omega

theorem first_iff (t : Fin cfg0.N) : first (grid0.coords t) ↔ t.val = 0 := by
  have ht : t.val < 2 := Nat.lt_of_lt_of_eq t.isLt N_0
  simp only [first, coord_val]
  rcases (by omega : t.val = 0 ∨ t.val = 1) with h | h <;> rw [h] <;> decide

theorem last_iff (t : Fin cfg0.N) : last (grid0.coords t) ↔ t.val = 1 := by
  have ht : t.val < 2 := Nat.lt_of_lt_of_eq t.isLt N_0
  simp only [last, k0_cond2, coord_val]
  rcases (by omega : t.val = 0 ∨ t.val = 1) with h | h <;> rw [h] <;> decide

/-! ## The buffers the body works on -/

/-- The staging buffer of each window at point `t`, and that it is a whole buffer. -/
abbrev st0 (t : Fin cfg0.N) : Memref sig .tc .vmem S8x8192 .i32 := win0_0.stage (cfg0.slots t 0)
abbrev st1 (t : Fin cfg0.N) : Memref sig .tc .vmem S8x8 .i32 := win0_1.stage (cfg0.slots t 1)
abbrev st2 (t : Fin cfg0.N) : Memref sig .tc .vmem S6x1024x128 .bf16 := win0_2.stage (cfg0.slots t 2)
abbrev st3 (t : Fin cfg0.N) : Memref sig .tc .vmem S128x8 .f32 := win0_3.stage (cfg0.slots t 3)
abbrev st4 (t : Fin cfg0.N) : Memref sig .tc .vmem S64x128 .f32 := win0_4.stage (cfg0.slots t 4)
abbrev st5 (t : Fin cfg0.N) : Memref sig .tc .vmem S1x1 .f32 := win0_5.stage (cfg0.slots t 5)

/-- The four scratch buffers: the negative rows, their products with the relation vectors, their square sums, and
    the accumulator. -/
abbrev negs : Memref sig .tc .vmem S64x128 .bf16 := Memref.whole cc0_scratch0
abbrev prods : Memref sig .tc .vmem S64x128 .f32 := Memref.whole cc0_scratch1
abbrev squares : Memref sig .tc .vmem S8x128 .f32 := Memref.whole cc0_scratch2
abbrev accum : Memref sig .tc .vmem S9x8192 .f32 := Memref.whole cc0_scratch3

/-- What the launch hands the region: each scratch buffer at some contents, the generator register at some state. -/
theorem launched (c : Dev nD) :
    (Pipeline.ΦA spec0 c : sProp 𝕄)
      = iprop(iprop((∃ d, owns (c : Thread nD τ) negs fullShare d) ∗ (∃ d, owns (c : Thread nD τ) prods fullShare d)
          ∗ (∃ d, owns (c : Thread nD τ) squares fullShare d) ∗ (∃ d, owns (c : Thread nD τ) accum fullShare d))
          ∗ (∃ r, prngReg c r)) := by
  unfold Pipeline.ΦA; rw [scopedRest0_eq]; simp only [negs, prods, squares, accum, owns_whole]; try rfl

/-! ## The stored cells of the two buffers the first point fills only in part -/

/-- The first column of the products, eight rows at a time: all the body ever stores of them, or reads. -/
abbrev prodCells (q : Fin 8 → Vec F S8x1 .f32) : List (View.Piece (Elt F) S64x128 .f32) :=
  [⟨Rect.unit (s := S64x128) ![56, 0] S8x1.size inb_S64x128_S8x1_56_0, q 7⟩,
   ⟨Rect.unit (s := S64x128) ![48, 0] S8x1.size inb_S64x128_S8x1_48_0, q 6⟩,
   ⟨Rect.unit (s := S64x128) ![40, 0] S8x1.size inb_S64x128_S8x1_40_0, q 5⟩,
   ⟨Rect.unit (s := S64x128) ![32, 0] S8x1.size inb_S64x128_S8x1_32_0, q 4⟩,
   ⟨Rect.unit (s := S64x128) ![24, 0] S8x1.size inb_S64x128_S8x1_24_0, q 3⟩,
   ⟨Rect.unit (s := S64x128) ![16, 0] S8x1.size inb_S64x128_S8x1_16_0, q 2⟩,
   ⟨Rect.unit (s := S64x128) ![8, 0] S8x1.size inb_S64x128_S8x1_8_0, q 1⟩,
   ⟨Rect.unit (s := S64x128) ![0, 0] S8x1.size inb_S64x128_S8x1_0_0, q 0⟩]

/-- The first column of the square sums, cell by cell: all the body ever stores of them, or reads. -/
abbrev squareCells (s : Fin 8 → Vec F S1x1 .f32) : List (View.Piece (Elt F) S8x128 .f32) :=
  [⟨Rect.unit (s := S8x128) ![7, 0] S1x1.size inb_S8x128_S1x1_7_0, s 7⟩,
   ⟨Rect.unit (s := S8x128) ![6, 0] S1x1.size inb_S8x128_S1x1_6_0, s 6⟩,
   ⟨Rect.unit (s := S8x128) ![5, 0] S1x1.size inb_S8x128_S1x1_5_0, s 5⟩,
   ⟨Rect.unit (s := S8x128) ![4, 0] S1x1.size inb_S8x128_S1x1_4_0, s 4⟩,
   ⟨Rect.unit (s := S8x128) ![3, 0] S1x1.size inb_S8x128_S1x1_3_0, s 3⟩,
   ⟨Rect.unit (s := S8x128) ![2, 0] S1x1.size inb_S8x128_S1x1_2_0, s 2⟩,
   ⟨Rect.unit (s := S8x128) ![1, 0] S1x1.size inb_S8x128_S1x1_1_0, s 1⟩,
   ⟨Rect.unit (s := S8x128) ![0, 0] S1x1.size inb_S8x128_S1x1_0_0, s 0⟩]

end Cert.KernelIdeal.Hand

end
-- ==== Proof.KernelIdeal.RunFirst.lean ====
/- The body at the first grid point: what its stores leave in the four scratch buffers, and that it runs there. -/
module

public import proofs.«01_k».proof.Proof.KernelIdeal.Setup

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- The stores the first point makes into the four scratch buffers (the last first), as functions of the input blocks
    alone, with the proof that the body, on any staging buffers and on scratch buffers at any contents, runs to those
    stores and leaves every other buffer as it was. The stores are what running the body finds. -/
def runFirst (c : Dev nD) (i : grid0.Coords) (arg1 : Memref sig .tc .vmem S8x8192 .i32) (harg1 : arg1.IsWhole) (arg2 : Memref sig .tc .vmem S8x8 .i32) (harg2 : arg2.IsWhole)
      (arg3 : Memref sig .tc .vmem S6x1024x128 .bf16) (harg3 : arg3.IsWhole) (arg4 : Memref sig .tc .vmem S128x8 .f32) (harg4 : arg4.IsWhole)
      (arg5 : Memref sig .tc .vmem S64x128 .f32) (harg5 : arg5.IsWhole) (arg6 : Memref sig .tc .vmem S1x1 .f32) (harg6 : arg6.IsWhole)
      (arg7 : Memref sig .tc .vmem S64x128 .bf16) (harg7 : arg7.IsWhole) (arg8 : Memref sig .tc .vmem S64x128 .f32) (harg8 : arg8.IsWhole)
      (arg9 : Memref sig .tc .vmem S8x128 .f32) (harg9 : arg9.IsWhole) (arg10 : Memref sig .tc .vmem S9x8192 .f32) (harg10 : arg10.IsWhole)
    (hc0 : first i) (hc1 : ¬last i) (x0 : Vec F S8x8192 .i32) (x1 : Vec F S8x8 .i32) (x2 : Vec F S6x1024x128 .bf16) (x3 : Vec F S128x8 .f32) (x4 : Vec F S64x128 .f32) :
    Σ' (Ln : List (View.Piece (Elt F) S64x128 .bf16)) (Lp : List (View.Piece (Elt F) S64x128 .f32)) (Ls : List (View.Piece (Elt F) S8x128 .f32)),
    { La : List (View.Piece (Elt F) S9x8192 .f32) //
      ∀ (xo : Vec F S1x1 .f32) (E : Set ℕ) (K : PUnit → sProp 𝕄),
        iprop(
            owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare xo
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(
            owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare xo
            ∗ (∃ f, arg7.view.loc (c : Thread nD τ) ↦[arg7.view.set]{fullShare} arg7.view.writes (Elt F) f Ln)
            ∗ (∃ f, arg8.view.loc (c : Thread nD τ) ↦[arg8.view.set]{fullShare} arg8.view.writes (Elt F) f Lp)
            ∗ (∃ f, arg9.view.loc (c : Thread nD τ) ↦[arg9.view.set]{fullShare} arg9.view.writes (Elt F) f Ls)
            ∗ (∃ f, arg10.view.loc (c : Thread nD τ) ↦[arg10.view.set]{fullShare} arg10.view.writes (Elt F) f La)) -∗ K ⟨⟩))
          ⊢ wp frame (wpE (defs₀ (F := F)) Variants.none c none) E
            (cc0__body i arg1 harg1 arg2 harg2 arg3 harg3 arg4 harg4 arg5 harg5 arg6 harg6
              arg7 harg7 arg8 harg8 arg9 harg9 arg10 harg10) K } := by
  refine ⟨?_, ?_, ?_, ?_, fun xo E K => ?run⟩
  case run =>
    simp only [cc0__body_eq_skeleton]; unfold cc0__body_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, G0⟩, ⟨%d1, %g1, -, G1⟩, ⟨%d2, %g2, -, G2⟩, ⟨%d3, %g3, -, G3⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [G0]; · iexists _; iexact G0
    isplitl [G1]; · iexists _; iexact G1
    isplitl [G2]; · iexists _; iexact G2
    iexists _; iexact G3

end Cert.KernelIdeal.Hand

end
-- ==== Proof.KernelIdeal.Stored.lean ====
/- What the first point's stores of the negative rows, their products with the relation vectors and their square sums are,
   as functions of the input blocks. -/
module

public import proofs.«01_k».proof.Proof.KernelIdeal.RunFirst

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The negative rows, eight at a time. -/
abbrev negCells (r : Fin 8 → Vec F S8x128 .bf16) : List (View.Piece (Elt F) S64x128 .bf16) :=
  [⟨Rect.unit (s := S64x128) ![56, 0] S8x128.size inb_S64x128_S8x128_56_0, r 7⟩,
   ⟨Rect.unit (s := S64x128) ![48, 0] S8x128.size inb_S64x128_S8x128_48_0, r 6⟩,
   ⟨Rect.unit (s := S64x128) ![40, 0] S8x128.size inb_S64x128_S8x128_40_0, r 5⟩,
   ⟨Rect.unit (s := S64x128) ![32, 0] S8x128.size inb_S64x128_S8x128_32_0, r 4⟩,
   ⟨Rect.unit (s := S64x128) ![24, 0] S8x128.size inb_S64x128_S8x128_24_0, r 3⟩,
   ⟨Rect.unit (s := S64x128) ![16, 0] S8x128.size inb_S64x128_S8x128_16_0, r 2⟩,
   ⟨Rect.unit (s := S64x128) ![8, 0] S8x128.size inb_S64x128_S8x128_8_0, r 1⟩,
   ⟨Rect.unit (s := S64x128) ![0, 0] S8x128.size inb_S64x128_S8x128_0_0, r 0⟩]

/-- The eight negative rows of each relation, -/
def firstNegs (x1 : Vec F S8x8 .i32) (x2 : Vec F S6x1024x128 .bf16) : Fin 8 → Vec F S8x128 .bf16 :=
  ![k0_pay5 (View.ld x1 (Rect.unit (s := S8x8) ![0, 0] S8x1.size inb_S8x8_S8x1_0_0)) (View.ld x2 (Rect.unit (s := S6x1024x128) ![1, 0, 0] S1x1024x128.size inb_S6x1024x128_S1x1024x128_1_0_0)),
    k0_pay9 (View.ld x1 (Rect.unit (s := S8x8) ![0, 1] S8x1.size inb_S8x8_S8x1_0_1)) (View.ld x2 (Rect.unit (s := S6x1024x128) ![2, 0, 0] S1x1024x128.size inb_S6x1024x128_S1x1024x128_2_0_0)),
    k0_pay13 (View.ld x1 (Rect.unit (s := S8x8) ![0, 2] S8x1.size inb_S8x8_S8x1_0_2)) (View.ld x2 (Rect.unit (s := S6x1024x128) ![2, 0, 0] S1x1024x128.size inb_S6x1024x128_S1x1024x128_2_0_0)),
    k0_pay18 (View.ld x1 (Rect.unit (s := S8x8) ![0, 3] S8x1.size inb_S8x8_S8x1_0_3)) (View.ld x2 (Rect.unit (s := S6x1024x128) ![3, 0, 0] S1x1024x128.size inb_S6x1024x128_S1x1024x128_3_0_0)),
    k0_pay23 (View.ld x1 (Rect.unit (s := S8x8) ![0, 4] S8x1.size inb_S8x8_S8x1_0_4)) (View.ld x2 (Rect.unit (s := S6x1024x128) ![4, 0, 0] S1x1024x128.size inb_S6x1024x128_S1x1024x128_4_0_0)),
    k0_pay28 (View.ld x1 (Rect.unit (s := S8x8) ![0, 5] S8x1.size inb_S8x8_S8x1_0_5)) (View.ld x2 (Rect.unit (s := S6x1024x128) ![5, 0, 0] S1x1024x128.size inb_S6x1024x128_S1x1024x128_5_0_0)),
    k0_pay34 (k0_pay33 (View.ld x1 (Rect.unit (s := S8x8) ![0, 6] S8x1.size inb_S8x8_S8x1_0_6)) (View.ld x2 (Rect.unit (s := S6x1024x128) ![5, 0, 0] S1x1024x128.size inb_S6x1024x128_S1x1024x128_5_0_0))),
    k0_pay41 (k0_pay38 (View.ld x1 (Rect.unit (s := S8x8) ![0, 7] S8x1.size inb_S8x8_S8x1_0_7)) (View.ld x2 (Rect.unit (s := S6x1024x128) ![5, 0, 0] S1x1024x128.size inb_S6x1024x128_S1x1024x128_5_0_0)))]

/-- their products with the relation's vector, -/
def firstProds (x1 : Vec F S8x8 .i32) (x2 : Vec F S6x1024x128 .bf16) (x4 : Vec F S64x128 .f32) : Fin 8 → Vec F S8x1 .f32 :=
  ![k0_pay7 (k0_pay4 (View.ld x1 (Rect.unit (s := S8x8) ![0, 0] S8x1.size inb_S8x8_S8x1_0_0)) (View.ld x2 (Rect.unit (s := S6x1024x128) ![1, 0, 0] S1x1024x128.size inb_S6x1024x128_S1x1024x128_1_0_0))) (View.ld x4 (Rect.unit (s := S64x128) ![0, 0] S8x128.size inb_S64x128_S8x128_0_0)),
    k0_pay11 (k0_pay8 (View.ld x1 (Rect.unit (s := S8x8) ![0, 1] S8x1.size inb_S8x8_S8x1_0_1)) (View.ld x2 (Rect.unit (s := S6x1024x128) ![2, 0, 0] S1x1024x128.size inb_S6x1024x128_S1x1024x128_2_0_0))) (View.ld x4 (Rect.unit (s := S64x128) ![8, 0] S8x128.size inb_S64x128_S8x128_8_0)),
    k0_pay16 (k0_pay12 (View.ld x1 (Rect.unit (s := S8x8) ![0, 2] S8x1.size inb_S8x8_S8x1_0_2)) (View.ld x2 (Rect.unit (s := S6x1024x128) ![2, 0, 0] S1x1024x128.size inb_S6x1024x128_S1x1024x128_2_0_0))) (View.ld x4 (Rect.unit (s := S64x128) ![16, 0] S8x128.size inb_S64x128_S8x128_16_0)),
    k0_pay21 (k0_pay17 (View.ld x1 (Rect.unit (s := S8x8) ![0, 3] S8x1.size inb_S8x8_S8x1_0_3)) (View.ld x2 (Rect.unit (s := S6x1024x128) ![3, 0, 0] S1x1024x128.size inb_S6x1024x128_S1x1024x128_3_0_0))) (View.ld x4 (Rect.unit (s := S64x128) ![24, 0] S8x128.size inb_S64x128_S8x128_24_0)),
    k0_pay26 (k0_pay22 (View.ld x1 (Rect.unit (s := S8x8) ![0, 4] S8x1.size inb_S8x8_S8x1_0_4)) (View.ld x2 (Rect.unit (s := S6x1024x128) ![4, 0, 0] S1x1024x128.size inb_S6x1024x128_S1x1024x128_4_0_0))) (View.ld x4 (Rect.unit (s := S64x128) ![32, 0] S8x128.size inb_S64x128_S8x128_32_0)),
    k0_pay31 (k0_pay27 (View.ld x1 (Rect.unit (s := S8x8) ![0, 5] S8x1.size inb_S8x8_S8x1_0_5)) (View.ld x2 (Rect.unit (s := S6x1024x128) ![5, 0, 0] S1x1024x128.size inb_S6x1024x128_S1x1024x128_5_0_0))) (View.ld x4 (Rect.unit (s := S64x128) ![40, 0] S8x128.size inb_S64x128_S8x128_40_0)),
    k0_pay36 (k0_pay32 (View.ld x1 (Rect.unit (s := S8x8) ![0, 6] S8x1.size inb_S8x8_S8x1_0_6)) (View.ld x2 (Rect.unit (s := S6x1024x128) ![5, 0, 0] S1x1024x128.size inb_S6x1024x128_S1x1024x128_5_0_0))) (View.ld x4 (Rect.unit (s := S64x128) ![48, 0] S8x128.size inb_S64x128_S8x128_48_0)),
    k0_pay43 (k0_pay37 (View.ld x1 (Rect.unit (s := S8x8) ![0, 7] S8x1.size inb_S8x8_S8x1_0_7)) (View.ld x2 (Rect.unit (s := S6x1024x128) ![5, 0, 0] S1x1024x128.size inb_S6x1024x128_S1x1024x128_5_0_0))) (View.ld x4 (Rect.unit (s := S64x128) ![56, 0] S8x128.size inb_S64x128_S8x128_56_0))]

/-- and the sum of their squares. -/
def firstSquares (x1 : Vec F S8x8 .i32) (x2 : Vec F S6x1024x128 .bf16) : Fin 8 → Vec F S1x1 .f32 :=
  ![k0_pay6 (View.ld x1 (Rect.unit (s := S8x8) ![0, 0] S8x1.size inb_S8x8_S8x1_0_0)) (View.ld x2 (Rect.unit (s := S6x1024x128) ![1, 0, 0] S1x1024x128.size inb_S6x1024x128_S1x1024x128_1_0_0)),
    k0_pay10 (View.ld x1 (Rect.unit (s := S8x8) ![0, 1] S8x1.size inb_S8x8_S8x1_0_1)) (View.ld x2 (Rect.unit (s := S6x1024x128) ![2, 0, 0] S1x1024x128.size inb_S6x1024x128_S1x1024x128_2_0_0)),
    k0_pay15 (k0_pay14 (View.ld x1 (Rect.unit (s := S8x8) ![0, 2] S8x1.size inb_S8x8_S8x1_0_2)) (View.ld x2 (Rect.unit (s := S6x1024x128) ![2, 0, 0] S1x1024x128.size inb_S6x1024x128_S1x1024x128_2_0_0))),
    k0_pay20 (k0_pay19 (View.ld x1 (Rect.unit (s := S8x8) ![0, 3] S8x1.size inb_S8x8_S8x1_0_3)) (View.ld x2 (Rect.unit (s := S6x1024x128) ![3, 0, 0] S1x1024x128.size inb_S6x1024x128_S1x1024x128_3_0_0))),
    k0_pay25 (k0_pay24 (View.ld x1 (Rect.unit (s := S8x8) ![0, 4] S8x1.size inb_S8x8_S8x1_0_4)) (View.ld x2 (Rect.unit (s := S6x1024x128) ![4, 0, 0] S1x1024x128.size inb_S6x1024x128_S1x1024x128_4_0_0))),
    k0_pay30 (k0_pay29 (View.ld x1 (Rect.unit (s := S8x8) ![0, 5] S8x1.size inb_S8x8_S8x1_0_5)) (View.ld x2 (Rect.unit (s := S6x1024x128) ![5, 0, 0] S1x1024x128.size inb_S6x1024x128_S1x1024x128_5_0_0))),
    k0_pay35 (k0_pay32 (View.ld x1 (Rect.unit (s := S8x8) ![0, 6] S8x1.size inb_S8x8_S8x1_0_6)) (View.ld x2 (Rect.unit (s := S6x1024x128) ![5, 0, 0] S1x1024x128.size inb_S6x1024x128_S1x1024x128_5_0_0))),
    k0_pay42 (k0_pay37 (View.ld x1 (Rect.unit (s := S8x8) ![0, 7] S8x1.size inb_S8x8_S8x1_0_7)) (View.ld x2 (Rect.unit (s := S6x1024x128) ![5, 0, 0] S1x1024x128.size inb_S6x1024x128_S1x1024x128_5_0_0)))]

set_option maxHeartbeats 1600000 in
theorem runFirst_negs (c : Dev nD) (i : grid0.Coords) (arg1 : Memref sig .tc .vmem S8x8192 .i32) (harg1 : arg1.IsWhole) (arg2 : Memref sig .tc .vmem S8x8 .i32) (harg2 : arg2.IsWhole)
      (arg3 : Memref sig .tc .vmem S6x1024x128 .bf16) (harg3 : arg3.IsWhole) (arg4 : Memref sig .tc .vmem S128x8 .f32) (harg4 : arg4.IsWhole)
      (arg5 : Memref sig .tc .vmem S64x128 .f32) (harg5 : arg5.IsWhole) (arg6 : Memref sig .tc .vmem S1x1 .f32) (harg6 : arg6.IsWhole)
      (arg7 : Memref sig .tc .vmem S64x128 .bf16) (harg7 : arg7.IsWhole) (arg8 : Memref sig .tc .vmem S64x128 .f32) (harg8 : arg8.IsWhole)
      (arg9 : Memref sig .tc .vmem S8x128 .f32) (harg9 : arg9.IsWhole) (arg10 : Memref sig .tc .vmem S9x8192 .f32) (harg10 : arg10.IsWhole)
    (hc0 : first i) (hc1 : ¬last i) (x0 : Vec F S8x8192 .i32) (x1 : Vec F S8x8 .i32) (x2 : Vec F S6x1024x128 .bf16) (x3 : Vec F S128x8 .f32) (x4 : Vec F S64x128 .f32) :
    (runFirst (F := F) c i arg1 harg1 arg2 harg2 arg3 harg3 arg4 harg4 arg5 harg5 arg6 harg6 arg7 harg7 arg8 harg8 arg9 harg9 arg10 harg10 hc0 hc1 x0 x1 x2 x3 x4).1 = negCells (firstNegs x1 x2) := by
  unfold runFirst; dsimp only; sl_unfold_words; simp only [View.readAt_eq_ld, harg2.read_unread, harg3.read_unread, harg5.read_unread]; rfl

set_option maxHeartbeats 1600000 in
theorem runFirst_prods (c : Dev nD) (i : grid0.Coords) (arg1 : Memref sig .tc .vmem S8x8192 .i32) (harg1 : arg1.IsWhole) (arg2 : Memref sig .tc .vmem S8x8 .i32) (harg2 : arg2.IsWhole)
      (arg3 : Memref sig .tc .vmem S6x1024x128 .bf16) (harg3 : arg3.IsWhole) (arg4 : Memref sig .tc .vmem S128x8 .f32) (harg4 : arg4.IsWhole)
      (arg5 : Memref sig .tc .vmem S64x128 .f32) (harg5 : arg5.IsWhole) (arg6 : Memref sig .tc .vmem S1x1 .f32) (harg6 : arg6.IsWhole)
      (arg7 : Memref sig .tc .vmem S64x128 .bf16) (harg7 : arg7.IsWhole) (arg8 : Memref sig .tc .vmem S64x128 .f32) (harg8 : arg8.IsWhole)
      (arg9 : Memref sig .tc .vmem S8x128 .f32) (harg9 : arg9.IsWhole) (arg10 : Memref sig .tc .vmem S9x8192 .f32) (harg10 : arg10.IsWhole)
    (hc0 : first i) (hc1 : ¬last i) (x0 : Vec F S8x8192 .i32) (x1 : Vec F S8x8 .i32) (x2 : Vec F S6x1024x128 .bf16) (x3 : Vec F S128x8 .f32) (x4 : Vec F S64x128 .f32) :
    (runFirst (F := F) c i arg1 harg1 arg2 harg2 arg3 harg3 arg4 harg4 arg5 harg5 arg6 harg6 arg7 harg7 arg8 harg8 arg9 harg9 arg10 harg10 hc0 hc1 x0 x1 x2 x3 x4).2.1 = prodCells (firstProds x1 x2 x4) := by
  unfold runFirst; dsimp only; sl_unfold_words; simp only [View.readAt_eq_ld, harg2.read_unread, harg3.read_unread, harg5.read_unread]; rfl

set_option maxHeartbeats 1600000 in
theorem runFirst_squares (c : Dev nD) (i : grid0.Coords) (arg1 : Memref sig .tc .vmem S8x8192 .i32) (harg1 : arg1.IsWhole) (arg2 : Memref sig .tc .vmem S8x8 .i32) (harg2 : arg2.IsWhole)
      (arg3 : Memref sig .tc .vmem S6x1024x128 .bf16) (harg3 : arg3.IsWhole) (arg4 : Memref sig .tc .vmem S128x8 .f32) (harg4 : arg4.IsWhole)
      (arg5 : Memref sig .tc .vmem S64x128 .f32) (harg5 : arg5.IsWhole) (arg6 : Memref sig .tc .vmem S1x1 .f32) (harg6 : arg6.IsWhole)
      (arg7 : Memref sig .tc .vmem S64x128 .bf16) (harg7 : arg7.IsWhole) (arg8 : Memref sig .tc .vmem S64x128 .f32) (harg8 : arg8.IsWhole)
      (arg9 : Memref sig .tc .vmem S8x128 .f32) (harg9 : arg9.IsWhole) (arg10 : Memref sig .tc .vmem S9x8192 .f32) (harg10 : arg10.IsWhole)
    (hc0 : first i) (hc1 : ¬last i) (x0 : Vec F S8x8192 .i32) (x1 : Vec F S8x8 .i32) (x2 : Vec F S6x1024x128 .bf16) (x3 : Vec F S128x8 .f32) (x4 : Vec F S64x128 .f32) :
    (runFirst (F := F) c i arg1 harg1 arg2 harg2 arg3 harg3 arg4 harg4 arg5 harg5 arg6 harg6 arg7 harg7 arg8 harg8 arg9 harg9 arg10 harg10 hc0 hc1 x0 x1 x2 x3 x4).2.2.1 = squareCells (firstSquares x1 x2) := by
  unfold runFirst; dsimp only; sl_unfold_words; simp only [View.readAt_eq_ld, harg2.read_unread, harg3.read_unread, harg5.read_unread]; rfl

end Cert.KernelIdeal.Hand

end
-- ==== Proof.KernelIdeal.RunLast.lean ====
/- The body at the last grid point: what its stores leave in the accumulator and in the output, and that it runs there. -/
module

public import proofs.«01_k».proof.Proof.KernelIdeal.Setup

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- The stores the last point makes into the output and the accumulator (the last first), as functions of the input
    blocks and of what the first point left in the scratch buffers: the negative rows and the accumulator whole, of
    the products and the square sums only the stored cells, over anything. With the proof that the body runs to them. -/
def runLast (c : Dev nD) (i : grid0.Coords) (arg1 : Memref sig .tc .vmem S8x8192 .i32) (harg1 : arg1.IsWhole) (arg2 : Memref sig .tc .vmem S8x8 .i32) (harg2 : arg2.IsWhole)
      (arg3 : Memref sig .tc .vmem S6x1024x128 .bf16) (harg3 : arg3.IsWhole) (arg4 : Memref sig .tc .vmem S128x8 .f32) (harg4 : arg4.IsWhole)
      (arg5 : Memref sig .tc .vmem S64x128 .f32) (harg5 : arg5.IsWhole) (arg6 : Memref sig .tc .vmem S1x1 .f32) (harg6 : arg6.IsWhole)
      (arg7 : Memref sig .tc .vmem S64x128 .bf16) (harg7 : arg7.IsWhole) (arg8 : Memref sig .tc .vmem S64x128 .f32) (harg8 : arg8.IsWhole)
      (arg9 : Memref sig .tc .vmem S8x128 .f32) (harg9 : arg9.IsWhole) (arg10 : Memref sig .tc .vmem S9x8192 .f32) (harg10 : arg10.IsWhole)
    (hc0 : ¬first i) (hc1 : last i) (x0 : Vec F S8x8192 .i32) (x1 : Vec F S8x8 .i32) (x2 : Vec F S6x1024x128 .bf16) (x3 : Vec F S128x8 .f32) (x4 : Vec F S64x128 .f32)
    (n : Vec F S64x128 .bf16) (q : Fin 8 → Vec F S8x1 .f32) (s : Fin 8 → Vec F S1x1 .f32) (a : Vec F S9x8192 .f32) :
    Σ' (Lo : List (View.Piece (Elt F) S1x1 .f32)),
    { La : List (View.Piece (Elt F) S9x8192 .f32) //
      ∀ (E : Set ℕ) (K : PUnit → sProp 𝕄),
        iprop(
            owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare n
            ∗ (∃ f, arg8.view.loc (c : Thread nD τ) ↦[arg8.view.set]{fullShare} arg8.view.writes (Elt F) f (prodCells q))
            ∗ (∃ f, arg9.view.loc (c : Thread nD τ) ↦[arg9.view.set]{fullShare} arg9.view.writes (Elt F) f (squareCells s))
            ∗ owns (c : Thread nD τ) arg10 fullShare a
            ∗ (iprop(
            owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ f, arg6.view.loc (c : Thread nD τ) ↦[arg6.view.set]{fullShare} arg6.view.writes (Elt F) f Lo)
            ∗ owns (c : Thread nD τ) arg7 fullShare n
            ∗ (∃ f, arg8.view.loc (c : Thread nD τ) ↦[arg8.view.set]{fullShare} arg8.view.writes (Elt F) f (prodCells q))
            ∗ (∃ f, arg9.view.loc (c : Thread nD τ) ↦[arg9.view.set]{fullShare} arg9.view.writes (Elt F) f (squareCells s))
            ∗ (∃ f, arg10.view.loc (c : Thread nD τ) ↦[arg10.view.set]{fullShare} arg10.view.writes (Elt F) f La)) -∗ K ⟨⟩))
          ⊢ wp frame (wpE (defs₀ (F := F)) Variants.none c none) E
            (cc0__body i arg1 harg1 arg2 harg2 arg3 harg3 arg4 harg4 arg5 harg5 arg6 harg6
              arg7 harg7 arg8 harg8 arg9 harg9 arg10 harg10) K } := by
  refine ⟨?_, ?_,
    fun E K => ?run⟩
  case run =>
    simp only [cc0__body_eq_skeleton]; unfold cc0__body_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part9_eq_skeleton, k0_part10_eq_skeleton]
    unfold owns prodCells squareCells
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, G0⟩, ⟨%g1, G1⟩, ⟨%g2, G2⟩, ⟨%g3, %hg3, G3⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hg0; obtain rfl := harg10.eq_unread hg3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [G0]
    · iexists _; isplitr; · ipureintro; exact harg7.read_unread _
      iexact G0
    isplitl [G1]; · iexists _; iexact G1
    isplitl [G2]; · iexists _; iexact G2
    iexists _; iexact G3

end Cert.KernelIdeal.Hand

end
-- ==== Proof.KernelIdeal.Frame.lean ====
/- The frame certificate of the program: what the grid's two points leave in each buffer, that the body's obligation holds
   at both, and the launch. Between the points the negative rows and the accumulator are held at named contents, and
   of the products and the square sums the stored cells, over anything. -/
module

public import proofs.«01_k».proof.Proof.KernelIdeal.Stored
public import proofs.«01_k».proof.Proof.KernelIdeal.RunLast

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two points leave -/

/-- The grid's two points. -/
abbrev p0 : Fin cfg0.N := ⟨0, by rw [show cfg0.N = 2 from N_0]; decide⟩
abbrev p1 : Fin cfg0.N := ⟨1, by rw [show cfg0.N = 2 from N_0]; decide⟩

theorem point_cases (t : Fin cfg0.N) : t = p0 ∨ t = p1 := by
  have ht : t.val < 2 := Nat.lt_of_lt_of_eq t.isLt N_0
  rcases (by omega : t.val = 0 ∨ t.val = 1) with h | h
  · exact .inl (Fin.ext h)
  · exact .inr (Fin.ext h)

theorem first_p0 : first (grid0.coords p0) := (first_iff p0).mpr rfl
theorem not_last_p0 : ¬last (grid0.coords p0) := fun h => absurd ((last_iff p0).mp h) (by decide)
theorem not_first_p1 : ¬first (grid0.coords p1) := fun h => absurd ((first_iff p1).mp h) (by decide)
theorem last_p1 : last (grid0.coords p1) := (last_iff p1).mpr rfl

theorem hst0 (t : Fin cfg0.N) : (st0 t).IsWhole := hstage0_0 ((cfg0.slots t 0).cast nbuf0_0)
theorem hst1 (t : Fin cfg0.N) : (st1 t).IsWhole := hstage0_1 ((cfg0.slots t 1).cast nbuf0_1)
theorem hst2 (t : Fin cfg0.N) : (st2 t).IsWhole := hstage0_2 ((cfg0.slots t 2).cast nbuf0_2)
theorem hst3 (t : Fin cfg0.N) : (st3 t).IsWhole := hstage0_3 ((cfg0.slots t 3).cast nbuf0_3)
theorem hst4 (t : Fin cfg0.N) : (st4 t).IsWhole := hstage0_4 ((cfg0.slots t 4).cast nbuf0_4)
theorem hst5 (t : Fin cfg0.N) : (st5 t).IsWhole := hstage0_5 ((cfg0.slots t 5).cast nbuf0_5)

/-- The run at the first point, on the blocks the pipeline stages there. -/
def run0 (c : Dev nD) :=
  runFirst (F := F) c (grid0.coords p0) (st0 p0) (hst0 p0) (st1 p0) (hst1 p0) (st2 p0) (hst2 p0) (st3 p0) (hst3 p0) (st4 p0) (hst4 p0) (st5 p0) (hst5 p0) negs (Memref.isWhole_whole _) prods (Memref.isWhole_whole _) squares (Memref.isWhole_whole _) accum (Memref.isWhole_whole _)
    first_p0 not_last_p0 (iblk m c 0 p0) (iblk m c 1 p0) (iblk m c 2 p0) (iblk m c 3 p0) (iblk m c 4 p0)

/-- What the first point leaves: the negative rows, the stored products and square sums, the accumulator. -/
def negs0 (c : Dev nD) : Vec F S64x128 .bf16 := View.canon (run0 m c).1
def prods0 (c : Dev nD) : Fin 8 → Vec F S8x1 .f32 := firstProds (iblk m c 1 p0) (iblk m c 2 p0) (iblk m c 4 p0)
def squares0 (c : Dev nD) : Fin 8 → Vec F S1x1 .f32 := firstSquares (iblk m c 1 p0) (iblk m c 2 p0)
def accum0 (c : Dev nD) : Vec F S9x8192 .f32 := View.canon (run0 m c).2.2.2.1

theorem prods_eq (c : Dev nD) : (run0 m c).2.1 = prodCells (prods0 m c) := by
  unfold run0 prods0; exact runFirst_prods ..
theorem squares_eq (c : Dev nD) : (run0 m c).2.2.1 = squareCells (squares0 m c) := by
  unfold run0 squares0; exact runFirst_squares ..

/-- The run at the last point, on the blocks staged there and on what the first point left. -/
def run1 (c : Dev nD) :=
  runLast (F := F) c (grid0.coords p1) (st0 p1) (hst0 p1) (st1 p1) (hst1 p1) (st2 p1) (hst2 p1) (st3 p1) (hst3 p1) (st4 p1) (hst4 p1) (st5 p1) (hst5 p1) negs (Memref.isWhole_whole _) prods (Memref.isWhole_whole _) squares (Memref.isWhole_whole _) accum (Memref.isWhole_whole _)
    not_first_p1 last_p1 (iblk m c 0 p1) (iblk m c 1 p1) (iblk m c 2 p1) (iblk m c 3 p1) (iblk m c 4 p1)
    (negs0 m c) (prods0 m c) (squares0 m c) (accum0 m c)

/-- What the last point leaves in the output. -/
def out1 (c : Dev nD) : Vec F S1x1 .f32 := View.canon (run1 m c).1

/-! The stores cover the negative rows, the accumulator and the output. -/

theorem cover_negs (c : Dev nD) (y : S64x128.Idx) : ∃ p ∈ (run0 m c).1, y ∈ p.1.set :=
  View.cover_of_tiledL (run0 m c).1 S8x128.size (by sl_kernel_rfl) y
theorem cover_accum (c : Dev nD) (y : S9x8192.Idx) : ∃ p ∈ (run0 m c).2.2.2.1, y ∈ p.1.set :=
  View.cover_of_tiledL (run0 m c).2.2.2.1 S1x8192.size (by sl_kernel_rfl) y
theorem cover_out (c : Dev nD) (y : S1x1.Idx) : ∃ p ∈ (run1 m c).1, y ∈ p.1.set :=
  View.cover_of_tiledL (run1 m c).1 S1x1.size (by sl_kernel_rfl) y

/-! ## The proof data -/

/-- How the scratch buffers are held between the two points. -/
def carried (c : Dev nD) : sProp 𝕄 :=
  iprop(iprop(owns (c : Thread nD τ) negs fullShare (negs0 m c)
    ∗ (∃ f, prods.view.loc (c : Thread nD τ) ↦[prods.view.set]{fullShare} prods.view.writes (Elt F) f (prodCells (prods0 m c)))
    ∗ (∃ f, squares.view.loc (c : Thread nD τ) ↦[squares.view.set]{fullShare} squares.view.writes (Elt F) f (squareCells (squares0 m c)))
    ∗ owns (c : Thread nD τ) accum fullShare (accum0 m c)) ∗ (∃ r, prngReg c r))

/-- The invariant before step `n`: between the two points the scratch buffers as carried, otherwise at anything. -/
def inv (c : Dev nD) : ℕ → sProp 𝕄
  | 1 => carried m c
  | _ => Pipeline.ΦA spec0 c

/-- The proof data: the arrays as the region finds them, each input's block left in place, the output after the last
    point, the invariant; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out1 m c
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out1 m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! The windows' use at the two points: the inputs always, the output at the last point only. -/

theorem leaves_0 (c : Dev nD) (t : Fin cfg0.N) : (dats m 0 c).leavesExact 0 t = owns (c : Thread nD τ) (st0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st4 t) fullShare (iblk m c 4 t) := by
  unfold Dat.leavesExact; rw [show cfg0.idle 4 (grid0.coords t) = false from rfl, after_4]
theorem idle_5 : cfg0.idle 5 (grid0.coords p0) = true := by decide +kernel
theorem no_flush_5 : (cfg0.win 5).flush p0 = false := by decide +kernel
theorem live_5 : cfg0.idle 5 (grid0.coords p1) = false := by decide +kernel
theorem leaves_5 (c : Dev nD) : (dats m 0 c).leavesExact 5 p1 = owns (c : Thread nD τ) (st5 p1) fullShare (out1 m c) := by
  unfold Dat.leavesExact; rw [live_5, after_5]

/-! ## The body's obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at the first point. -/
theorem sound_first (c : Dev nD) :
    bodyPre m c p0 ⊢ wp frame (wpE (defs₀ (F := F)) Variants.none c none) Set.univ (bodyAt0 p0) (fun _ => bodyPost m c p0) := by
  unfold bodyPre bodyPost bodyAt0
  simp only [before_0, before_1, before_2, before_3, before_4, leaves_0, leaves_1, leaves_2, leaves_3, leaves_4]
  rw [show (dats m 0 c).owesAt () p0.succ = (dats m 0 c).owesAt () p0.castSucc from rfl,
    show (dats m 0 c).Φ p0.succ = carried m c from rfl,
    show (dats m 0 c).Φ p0.castSucc = Pipeline.ΦA spec0 c from rfl, launched,
    Dat.leavesExact_idle (dats m 0 c) 5 p0 idle_5 no_flush_5]
  unfold carried
  iintro ⟨⟨⟨G0, G1, G2, G3⟩, Hg⟩, Ho, ⟨%d0, H0⟩, ⟨%d1, H1⟩, ⟨%d2, H2⟩, ⟨%d3, H3⟩, ⟨%d4, H4⟩, ⟨%d5, H5⟩⟩
  iapply ((run0 m c).2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [G0]; · iexact G0
  isplitl [G1]; · iexact G1
  isplitl [G2]; · iexact G2
  isplitl [G3]; · iexact G3
  iintro ⟨H0, H1, H2, H3, H4, H5, ⟨%e0, G0⟩, G1, G2, ⟨%e3, G3⟩⟩
  isplitl [G0 G1 G2 G3 Hg]
  · isplitl [G0 G1 G2 G3]
    · isplitl [G0]
      · unfold owns; iexists _; isplitr
        swap; · iexact G0
        ipureintro; exact View.read_writes_eq_canon _ _ _ (cover_negs m c)
      isplitl [G1]; · rw [← prods_eq m c]; iexact G1
      isplitl [G2]; · rw [← squares_eq m c]; iexact G2
      unfold owns; iexists _; isplitr
      swap; · iexact G3
      ipureintro; exact View.read_writes_eq_canon _ _ _ (cover_accum m c)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 3200000 in
/-- The body at the last point. -/
theorem sound_last (c : Dev nD) :
    bodyPre m c p1 ⊢ wp frame (wpE (defs₀ (F := F)) Variants.none c none) Set.univ (bodyAt0 p1) (fun _ => bodyPost m c p1) := by
  unfold bodyPre bodyPost bodyAt0
  simp only [before_0, before_1, before_2, before_3, before_4, leaves_0, leaves_1, leaves_2, leaves_3, leaves_4, leaves_5]
  rw [show (dats m 0 c).owesAt () p1.succ = (dats m 0 c).owesAt () p1.castSucc from rfl,
    show (dats m 0 c).Φ p1.succ = Pipeline.ΦA spec0 c from rfl,
    show (dats m 0 c).Φ p1.castSucc = carried m c from rfl, launched]
  unfold carried
  iintro ⟨⟨⟨G0, G1, G2, G3⟩, Hg⟩, Ho, ⟨%d0, H0⟩, ⟨%d1, H1⟩, ⟨%d2, H2⟩, ⟨%d3, H3⟩, ⟨%d4, H4⟩, ⟨%d5, H5⟩⟩
  iapply ((run1 m c).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [G0]; · iexact G0
  isplitl [G1]; · iexact G1
  isplitl [G2]; · iexact G2
  isplitl [G3]; · iexact G3
  iintro ⟨H0, H1, H2, H3, H4, ⟨%e5, H5⟩, G0, ⟨%e1, G1⟩, ⟨%e2, G2⟩, ⟨%e3, G3⟩⟩
  isplitl [G0 G1 G2 G3 Hg]
  · isplitl [G0 G1 G2 G3]
    · isplitl [G0]; · iexists _; iexact G0
      isplitl [G1]
      · unfold owns; iexists _; iexists _; isplitr
        swap; · iexact G1
        ipureintro; rfl
      isplitl [G2]
      · unfold owns; iexists _; iexists _; isplitr
        swap; · iexact G2
        ipureintro; rfl
      unfold owns; iexists _; iexists _; isplitr
      swap; · iexact G3
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (cover_out m c)

theorem sound_body (c : Dev nD) (t : Fin cfg0.N) :
    bodyPre m c t ⊢ wp frame (wpE (defs₀ (F := F)) Variants.none c none) Set.univ (bodyAt0 t) (fun _ => bodyPost m c t) := by
  rcases point_cases t with rfl | rfl
  · exact sound_first m c
  · exact sound_last m c

/-- The body table's row at point `t`'s slots is the body at that point. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

-- the launch lemma's implicit arguments are found by unifying its conclusion with the statement, under definitions
set_option backward.isDefEq.respectTransparency.types false in
/-- Every fair run ends with every counter at zero, every array at what the proof data says of it, and every other buffer
    as the operations after the region leave it. -/
theorem run_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := fun _ => .rfl) (hout := fun _ => .rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- Every fair run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c),
      ((h.1 c).2 main_arg11 (Pipeline.mem_restRefs_of main_arg11 (by decide) (by decide))).trans (W_main_arg11 m (dats m) c),
      ((h.1 c).2 main_arg12 (Pipeline.mem_restRefs_of main_arg12 (by decide) (by decide))).trans (W_main_arg12 m (dats m) c),
      ((h.1 c).2 main_arg13 (Pipeline.mem_restRefs_of main_arg13 (by decide) (by decide))).trans (W_main_arg13 m (dats m) c),
      ((h.1 c).2 main_arg14 (Pipeline.mem_restRefs_of main_arg14 (by decide) (by decide))).trans (W_main_arg14 m (dats m) c),
      ((h.1 c).2 main_arg15 (Pipeline.mem_restRefs_of main_arg15 (by decide) (by decide))).trans (W_main_arg15 m (dats m) c),
      ((h.1 c).2 main_arg16 (Pipeline.mem_restRefs_of main_arg16 (by decide) (by decide))).trans (W_main_arg16 m (dats m) c)⟩, h.2⟩) (run_quiescent m ρ)

end Cert.KernelIdeal.Hand

end
-- ==== Proof.KernelIdeal.Rows.lean ====
/- What one grid point adds to the accumulator and what the last point writes, as functions of the input blocks and of what
   the first point stored. -/
module

public import proofs.«01_k».proof.Proof.KernelIdeal.Stored
public import proofs.«01_k».proof.Proof.KernelIdeal.RunLast
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The gathered rows of the eight relations for the block's examples, one example a lane: rows 0 to 99 are the embedding's
    coordinates, 100 to 102 the biases, 103 the squared norm. -/
def raw0 (x0 : Vec F S8x8192 .i32) (x2 : Vec F S6x1024x128 .bf16) : FVec F S128x8192 .f32 := k0_pay46 (View.ld x0 (Rect.unit (s := S8x8192) ![0, 0] S1x8192.size inb_S8x8192_S1x8192_0_0)) (View.ld x2 (Rect.unit (s := S6x1024x128) ![0, 0, 0] S1x1024x128.size inb_S6x1024x128_S1x1024x128_0_0_0))
def raw1 (x0 : Vec F S8x8192 .i32) (x2 : Vec F S6x1024x128 .bf16) : FVec F S128x8192 .f32 := k0_pay47 (View.ld x0 (Rect.unit (s := S8x8192) ![1, 0] S1x8192.size inb_S8x8192_S1x8192_1_0)) (View.ld x2 (Rect.unit (s := S6x1024x128) ![1, 0, 0] S1x1024x128.size inb_S6x1024x128_S1x1024x128_1_0_0))
def raw2 (x0 : Vec F S8x8192 .i32) (x2 : Vec F S6x1024x128 .bf16) : FVec F S128x8192 .f32 :=
  k0_pay49 (iota .tc S1024x8192 16 [0] iota_S1024x8192_d0_w16) (k0_pay48 (View.ld x0 (Rect.unit (s := S8x8192) ![2, 0] S1x8192.size inb_S8x8192_S1x8192_2_0))) (View.ld x2 (Rect.unit (s := S6x1024x128) ![2, 0, 0] S1x1024x128.size inb_S6x1024x128_S1x1024x128_2_0_0))
def raw3 (x0 : Vec F S8x8192 .i32) (x2 : Vec F S6x1024x128 .bf16) : FVec F S128x8192 .f32 :=
  k0_pay50 (iota .tc S1024x8192 16 [0] iota_S1024x8192_d0_w16) (View.ld x0 (Rect.unit (s := S8x8192) ![3, 0] S1x8192.size inb_S8x8192_S1x8192_3_0)) (View.ld x2 (Rect.unit (s := S6x1024x128) ![3, 0, 0] S1x1024x128.size inb_S6x1024x128_S1x1024x128_3_0_0))
def raw4 (x0 : Vec F S8x8192 .i32) (x2 : Vec F S6x1024x128 .bf16) : FVec F S128x8192 .f32 :=
  k0_pay51 (iota .tc S1024x8192 16 [0] iota_S1024x8192_d0_w16) (View.ld x0 (Rect.unit (s := S8x8192) ![4, 0] S1x8192.size inb_S8x8192_S1x8192_4_0)) (View.ld x2 (Rect.unit (s := S6x1024x128) ![4, 0, 0] S1x1024x128.size inb_S6x1024x128_S1x1024x128_4_0_0))
def raw5 (x0 : Vec F S8x8192 .i32) (x2 : Vec F S6x1024x128 .bf16) : FVec F S128x8192 .f32 :=
  k0_pay53 (k0_pay52 (iota .tc S1024x8192 16 [0] iota_S1024x8192_d0_w16) (View.ld x0 (Rect.unit (s := S8x8192) ![5, 0] S1x8192.size inb_S8x8192_S1x8192_5_0))) (Scalar.ofBits .bf16 0x3F80#16) (Scalar.ofBits .bf16 0x0000#16) (View.ld x2 (Rect.unit (s := S6x1024x128) ![5, 0, 0] S1x1024x128.size inb_S6x1024x128_S1x1024x128_5_0_0))
def raw6 (x0 : Vec F S8x8192 .i32) (x2 : Vec F S6x1024x128 .bf16) : FVec F S128x8192 .f32 :=
  k0_pay54 (iota .tc S1024x8192 16 [0] iota_S1024x8192_d0_w16) (View.ld x0 (Rect.unit (s := S8x8192) ![6, 0] S1x8192.size inb_S8x8192_S1x8192_6_0)) (View.ld x2 (Rect.unit (s := S6x1024x128) ![5, 0, 0] S1x1024x128.size inb_S6x1024x128_S1x1024x128_5_0_0))
def raw7 (x0 : Vec F S8x8192 .i32) (x2 : Vec F S6x1024x128 .bf16) : FVec F S128x8192 .f32 :=
  k0_pay55 (iota .tc S1024x8192 16 [0] iota_S1024x8192_d0_w16) (View.ld x0 (Rect.unit (s := S8x8192) ![7, 0] S1x8192.size inb_S8x8192_S1x8192_7_0)) (View.ld x2 (Rect.unit (s := S6x1024x128) ![5, 0, 0] S1x1024x128.size inb_S6x1024x128_S1x1024x128_5_0_0))

/-- The first three relations' losses, of every lane, -/
def lossHead (v20 v31 v42 : FVec F S128x8192 .f32) (n : Vec F S64x128 .bf16) (q : Fin 8 → Vec F S8x1 .f32) (x3 : Vec F S128x8 .f32) : FVec F S1x8192 .f32 :=
  k0_pay79 k0_pay45 v42 (k0_pay66 k0_pay44 v31)
    (k0_pay75 k0_pay45 v42 (k0_pay65 k0_pay44 v20) (k0_pay67 k0_pay44 v20 (View.ld n (Rect.unit (s := S64x128) ![0, 0] S16x128.size inb_S64x128_S16x128_0_0))) k0_pay69 (k0_pay70 v31)
      (k0_pay72 k0_pay44 v20 v31 (View.ld x3 (Rect.unit (s := S128x8) ![0, 0] S128x1.size inb_S128x8_S128x1_0_0))) (k0_pay73 k0_pay44 v20 v31 (View.ld x3 (Rect.unit (s := S128x8) ![0, 0] S128x1.size inb_S128x8_S128x1_0_0))) (q 0) (View.ld x3 (Rect.unit (s := S128x8) ![0, 1] S128x1.size inb_S128x8_S128x1_0_1)))
    (k0_pay76 (k0_pay67 k0_pay44 v20 (View.ld n (Rect.unit (s := S64x128) ![0, 0] S16x128.size inb_S64x128_S16x128_0_0))) (q 1)) (k0_pay77 v42) (View.ld x3 (Rect.unit (s := S128x8) ![0, 2] S128x1.size inb_S128x8_S128x1_0_2))

/-- with the next three relations', -/
def lossMid (v31 v42 v53 v64 v75 : FVec F S128x8192 .f32) (l : FVec F S1x8192 .f32) (n : Vec F S64x128 .bf16) (q : Fin 8 → Vec F S8x1 .f32) (x3 : Vec F S128x8 .f32) : FVec F S1x8192 .f32 :=
  k0_pay87 k0_pay45 (k0_pay68 k0_pay44 v31 (View.ld n (Rect.unit (s := S64x128) ![16, 0] S48x128.size inb_S64x128_S48x128_16_0)))
    (k0_pay84 k0_pay45 v64 (k0_pay66 k0_pay44 v31) (k0_pay68 k0_pay44 v31 (View.ld n (Rect.unit (s := S64x128) ![16, 0] S48x128.size inb_S64x128_S48x128_16_0)))
      (k0_pay83 k0_pay45 v53 (k0_pay66 k0_pay44 v31) (k0_pay68 k0_pay44 v31 (View.ld n (Rect.unit (s := S64x128) ![16, 0] S48x128.size inb_S64x128_S48x128_16_0))) l
        (k0_pay81 v42 (k0_pay68 k0_pay44 v31 (View.ld n (Rect.unit (s := S64x128) ![16, 0] S48x128.size inb_S64x128_S48x128_16_0))) (q 2))
        (k0_pay82 v42 (k0_pay68 k0_pay44 v31 (View.ld n (Rect.unit (s := S64x128) ![16, 0] S48x128.size inb_S64x128_S48x128_16_0))) (q 2)) (View.ld x3 (Rect.unit (s := S128x8) ![0, 3] S128x1.size inb_S128x8_S128x1_0_3)) (q 3))
      (View.ld x3 (Rect.unit (s := S128x8) ![0, 4] S128x1.size inb_S128x8_S128x1_0_4)) (q 4))
    (k0_pay85 v75) (k0_pay86 v75 (k0_pay66 k0_pay44 v31) (View.ld x3 (Rect.unit (s := S128x8) ![0, 5] S128x1.size inb_S128x8_S128x1_0_5))) (q 5)

/-- and with the last two relations' and what was accumulated before. -/
def lossTail (v31 v86 v97 : FVec F S128x8192 .f32) (l : FVec F S1x8192 .f32) (n : Vec F S64x128 .bf16) (q : Fin 8 → Vec F S8x1 .f32) (x3 : Vec F S128x8 .f32)
    (a : FVec F S1x8192 .f32) : FVec F S1x8192 .f32 :=
  k0_pay1 k0_pay45 (k0_pay91 v97)
    (k0_pay92 k0_pay45 v97 (k0_pay66 k0_pay44 v31) (k0_pay68 k0_pay44 v31 (View.ld n (Rect.unit (s := S64x128) ![16, 0] S48x128.size inb_S64x128_S48x128_16_0))) l
      (k0_pay88 v86) (k0_pay89 v86 (k0_pay66 k0_pay44 v31) (View.ld x3 (Rect.unit (s := S128x8) ![0, 6] S128x1.size inb_S128x8_S128x1_0_6))) (k0_pay90 v86 (k0_pay66 k0_pay44 v31) (View.ld x3 (Rect.unit (s := S128x8) ![0, 6] S128x1.size inb_S128x8_S128x1_0_6))) (q 6) (View.ld x3 (Rect.unit (s := S128x8) ![0, 7] S128x1.size inb_S128x8_S128x1_0_7)))
    (k0_pay93 (k0_pay68 k0_pay44 v31 (View.ld n (Rect.unit (s := S64x128) ![16, 0] S48x128.size inb_S64x128_S48x128_16_0)))) (q 7) a

/-- The losses of a block's lanes, added to what was accumulated before. -/
def lossRow (x0 : Vec F S8x8192 .i32) (x2 : Vec F S6x1024x128 .bf16) (x3 : Vec F S128x8 .f32) (n : Vec F S64x128 .bf16) (q : Fin 8 → Vec F S8x1 .f32)
    (a : FVec F S1x8192 .f32) : FVec F S1x8192 .f32 :=
  lossTail (raw1 x0 x2) (raw6 x0 x2) (raw7 x0 x2)
    (lossMid (raw1 x0 x2) (raw2 x0 x2) (raw3 x0 x2) (raw4 x0 x2) (raw5 x0 x2)
      (lossHead (raw0 x0 x2) (raw1 x0 x2) (raw2 x0 x2) n q x3) n q x3) n q x3 a

/-- The accumulator's rows after a point: the losses, then the squared norms of each of the eight gathers. -/
def rowsAfter (x0 : Vec F S8x8192 .i32) (x2 : Vec F S6x1024x128 .bf16) (x3 : Vec F S128x8 .f32) (n : Vec F S64x128 .bf16) (q : Fin 8 → Vec F S8x1 .f32)
    (a : Fin 9 → Vec F S1x8192 .f32) : Fin 9 → Vec F S1x8192 .f32 :=
  ![lossRow x0 x2 x3 n q (a 0), k0_pay56 (raw0 x0 x2) (a 1), k0_pay57 (raw1 x0 x2) (a 2), k0_pay58 (raw2 x0 x2) (a 3), k0_pay59 (raw3 x0 x2) (a 4),
    k0_pay60 (raw4 x0 x2) (a 5), k0_pay61 (raw5 x0 x2) (a 6), k0_pay63 (k0_pay62 (raw6 x0 x2) (a 7)), k0_pay64 (raw7 x0 x2) (a 8)]

/-- The accumulator's rows as the stores leave them. -/
abbrev accCells (r : Fin 9 → Vec F S1x8192 .f32) : List (View.Piece (Elt F) S9x8192 .f32) :=
  [
   ⟨Rect.unit (s := S9x8192) ![0, 0] S1x8192.size inb_S9x8192_S1x8192_0_0, r 0⟩,
   ⟨Rect.unit (s := S9x8192) ![8, 0] S1x8192.size inb_S9x8192_S1x8192_8_0, r 8⟩,
   ⟨Rect.unit (s := S9x8192) ![7, 0] S1x8192.size inb_S9x8192_S1x8192_7_0, r 7⟩,
   ⟨Rect.unit (s := S9x8192) ![6, 0] S1x8192.size inb_S9x8192_S1x8192_6_0, r 6⟩,
   ⟨Rect.unit (s := S9x8192) ![5, 0] S1x8192.size inb_S9x8192_S1x8192_5_0, r 5⟩,
   ⟨Rect.unit (s := S9x8192) ![4, 0] S1x8192.size inb_S9x8192_S1x8192_4_0, r 4⟩,
   ⟨Rect.unit (s := S9x8192) ![3, 0] S1x8192.size inb_S9x8192_S1x8192_3_0, r 3⟩,
   ⟨Rect.unit (s := S9x8192) ![2, 0] S1x8192.size inb_S9x8192_S1x8192_2_0, r 2⟩,
   ⟨Rect.unit (s := S9x8192) ![1, 0] S1x8192.size inb_S9x8192_S1x8192_1_0, r 1⟩]

/-- A row of the accumulator. -/
def accRow (a : Vec F S9x8192 .f32) : Fin 9 → Vec F S1x8192 .f32 :=
  ![
    View.ld a (Rect.unit (s := S9x8192) ![0, 0] S1x8192.size inb_S9x8192_S1x8192_0_0),
    View.ld a (Rect.unit (s := S9x8192) ![1, 0] S1x8192.size inb_S9x8192_S1x8192_1_0),
    View.ld a (Rect.unit (s := S9x8192) ![2, 0] S1x8192.size inb_S9x8192_S1x8192_2_0),
    View.ld a (Rect.unit (s := S9x8192) ![3, 0] S1x8192.size inb_S9x8192_S1x8192_3_0),
    View.ld a (Rect.unit (s := S9x8192) ![4, 0] S1x8192.size inb_S9x8192_S1x8192_4_0),
    View.ld a (Rect.unit (s := S9x8192) ![5, 0] S1x8192.size inb_S9x8192_S1x8192_5_0),
    View.ld a (Rect.unit (s := S9x8192) ![6, 0] S1x8192.size inb_S9x8192_S1x8192_6_0),
    View.ld a (Rect.unit (s := S9x8192) ![7, 0] S1x8192.size inb_S9x8192_S1x8192_7_0),
    View.ld a (Rect.unit (s := S9x8192) ![8, 0] S1x8192.size inb_S9x8192_S1x8192_8_0)]

/-- What the last point writes: the loss from the accumulator's rows and the square sums. -/
def finish (r : Fin 9 → Vec F S1x8192 .f32) (s : Fin 8 → Vec F S1x1 .f32) : FVec F S1x1 .f32 :=
  k0_pay2 (k0_pay40 (k0_pay39 (r 1) (r 2) (r 3) (r 4) (r 5)) (r 6) (r 7) (r 8) (s 0) (s 1) (s 2) (s 3) (s 4) (s 5)) (s 6) (s 7) (r 0)

end Cert.KernelIdeal.Hand

end
-- ==== Proof.Model.lean ====
/- The loss in extended real arithmetic, the two programs' common form: a relation's term for one example, and the sums over the
   padded axes that the kernel takes. -/
module

public import Idealize.ShloMosaic.Lib.Pointwise

@[expose] public section

set_option maxRecDepth 16384

noncomputable section

namespace Cert.Model

open Idealize.ShloMosaic

/-- The softplus, as both programs write it. -/
def sp (z : EReal) : EReal := max z 0 + Ideal.log1p (Ideal.exp (-(FloatOps.absf (F := Ideal) (φ := .f32) z)))

theorem zero_sub' (x : EReal) : 0 - x = -x := by rw [sub_eq_add_neg, zero_add]

theorem sp_nonneg (z : EReal) : 0 ≤ sp z := by
  unfold sp
  refine add_nonneg (le_max_right _ _) ?_
  generalize (-(FloatOps.absf (F := Ideal) (φ := .f32) z) : EReal) = y
  unfold Ideal.log1p
  induction y using EReal.rec with
  | bot => rw [Ideal.exp_bot, add_zero, ← EReal.coe_one, Ideal.log_coe, if_neg (by norm_num), Real.log_one]; simp
  | top => rw [Ideal.exp_top, show (1 : EReal) + ⊤ = ⊤ from rfl, Ideal.log_top]; exact le_top
  | coe r =>
    rw [Ideal.exp_coe, show (1 : EReal) + ((Real.exp r : ℝ) : EReal) = ((1 + Real.exp r : ℝ) : EReal) by push_cast; rfl, Ideal.log_coe]
    have h := Real.exp_pos r
    rw [if_neg (by linarith)]
    exact_mod_cast Real.log_nonneg (by linarith)

/-- A relation's term for one example: head `h`, relation vector `r`, tail `t`, the tail's bias `β`, five negatives `n`. -/
def term (h r t : Fin 100 → EReal) (β : EReal) (n : Fin 5 → Fin 100 → EReal) : EReal :=
  sp (-(∑ d, (h d + r d) * t d + β)) + ∑ k, sp (∑ d, (h d + r d) * n k d + β)

theorem term_nonneg (h r t : Fin 100 → EReal) (β : EReal) (n : Fin 5 → Fin 100 → EReal) : 0 ≤ term h r t β n :=
  add_nonneg (sp_nonneg _) (Finset.sum_nonneg fun _ _ => sp_nonneg _)

/-- A sum over the padded coordinates that is zero past the hundredth. -/
theorem sum_pad128 (f : Fin 128 → EReal) (g : Fin 100 → EReal) (h1 : ∀ d : Fin 100, f ⟨d.val, by omega⟩ = g d)
    (h0 : ∀ d : Fin 128, 100 ≤ d.val → f d = 0) : ∑ d, f d = ∑ d, g d := by
  rw [show ∑ d, f d = ∑ d : Fin (100 + 28), f d from rfl, Fin.sum_univ_add]
  rw [Finset.sum_eq_zero (s := Finset.univ) (f := fun i : Fin 28 => f (Fin.natAdd 100 i)) (fun i _ => h0 _ (by simp)), add_zero]
  exact Finset.sum_congr rfl fun d _ => h1 d

/-- A sum over the eight slots of which five hold. -/
theorem sum_pad8 (f : Fin 8 → EReal) (g : Fin 5 → EReal) (h1 : ∀ d : Fin 5, f ⟨d.val, by omega⟩ = g d)
    (h0 : ∀ d : Fin 8, 5 ≤ d.val → f d = 0) : ∑ d, f d = ∑ d, g d := by
  rw [show ∑ d, f d = ∑ d : Fin (5 + 3), f d from rfl, Fin.sum_univ_add]
  rw [Finset.sum_eq_zero (s := Finset.univ) (f := fun i : Fin 3 => f (Fin.natAdd 5 i)) (fun i _ => h0 _ (by simp)), add_zero]
  exact Finset.sum_congr rfl fun d _ => h1 d

/-- The positive part over the padded coordinates, the head masked, -/
def posL (h r t : Fin 128 → EReal) (β : EReal) : EReal :=
  sp (-(∑ x, ((if x.val < 100 then h x else 0) + r x) * t x + β))

/-- and the negatives' part over the eight slots. -/
def negL (n : Fin 8 → Fin 128 → EReal) (h : Fin 128 → EReal) (q : Fin 8 → EReal) (β : EReal) : EReal :=
  ∑ k, if k.val < 5 then sp (∑ x, (if x.val < 100 then n k x * h x else 0) + q k + β) else 0

/-- A finite extended real. -/
def Fin' (x : EReal) : Prop := ∃ y : ℝ, x = (y : EReal)

/-- A finite factor distributes over a sum with a finite term, whatever the other term is. -/
theorem add_mul' {h r n : EReal} (hr : Fin' r) (hn : Fin' n) : n * h + n * r = (h + r) * n := by
  obtain ⟨b, rfl⟩ := hr; obtain ⟨c, rfl⟩ := hn
  induction h with
  | coe a =>
    rw [← EReal.coe_mul, ← EReal.coe_mul, ← EReal.coe_add, ← EReal.coe_add, ← EReal.coe_mul]
    congr 1; ring
  | top =>
    rw [EReal.top_add_coe, ← EReal.coe_mul, EReal.mul_comm ⊤]
    rcases lt_trichotomy c 0 with hc | rfl | hc
    · rw [EReal.coe_mul_top_of_neg hc, EReal.bot_add]
    · simp
    · rw [EReal.coe_mul_top_of_pos hc, EReal.top_add_coe]
  | bot =>
    rw [EReal.bot_add, ← EReal.coe_mul, EReal.mul_comm ⊥]
    rcases lt_trichotomy c 0 with hc | rfl | hc
    · rw [EReal.coe_mul_bot_of_neg hc, EReal.top_add_coe]
    · simp
    · rw [EReal.coe_mul_bot_of_pos hc, EReal.bot_add]

/-- The two parts are the relation's term. -/
theorem parts_eq (H R T : Fin 128 → EReal) (β : EReal) (N : Fin 8 → Fin 128 → EReal) (q : Fin 8 → EReal)
    (h r t : Fin 100 → EReal) (n : Fin 5 → Fin 100 → EReal)
    (hH : ∀ d : Fin 100, H ⟨d.val, by omega⟩ = h d) (hR : ∀ d : Fin 100, R ⟨d.val, by omega⟩ = r d) (hR0 : ∀ d : Fin 128, 100 ≤ d.val → R d = 0)
    (hT : ∀ d : Fin 100, T ⟨d.val, by omega⟩ = t d)
    (hN : ∀ (k : Fin 5) (d : Fin 100), N ⟨k.val, by omega⟩ ⟨d.val, by omega⟩ = n k d)
    (hq : ∀ k : Fin 5, q ⟨k.val, by omega⟩ = ∑ d, n k d * r d)
    (fr : ∀ d, Fin' (r d)) (fn : ∀ k d, Fin' (n k d)) :
    posL H R T β + negL N H q β = term h r t β n := by
  unfold posL negL term
  congr 1
  · congr 3
    refine sum_pad128 _ _ (fun d => ?_) (fun d hd => ?_)
    · rw [if_pos d.isLt, hH, hR, hT]
    · rw [if_neg (by omega), hR0 d hd, add_zero, zero_mul]
  · refine sum_pad8 _ _ (fun k => ?_) (fun k hk => if_neg (by omega))
    rw [if_pos k.isLt]
    congr 2
    rw [hq, sum_pad128 _ (fun d => n k d * h d) (fun d => ?_) (fun d hd => if_neg (by omega)), ← Finset.sum_add_distrib]
    · exact Finset.sum_congr rfl fun d _ => add_mul' (fr d) (fn k d)
    · rw [if_pos d.isLt, hN, hH]

/-- A sum over the table's rows of a row picked by its index. -/
theorem sum_pick {N : ℕ} (f : Fin N → EReal) (k : Fin N) : (∑ v, if v = k then f v else 0) = f k := by
  simp

end Cert.Model

end
-- ==== Proof.KernelIdeal.Lane.lean ====
/- The losses' payloads read at one lane. -/
module

public import proofs.«01_k».proof.Proof.KernelIdeal.Rows
public import proofs.«01_k».proof.Proof.Model
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Tactic Cert.Model

theorem lt100 : ∀ x : Fin 128, IntOp.cmpi CmpIPredicate.slt (BitVec.ofNat 32 x.val) 100#32 = if x.val < 100 then 1#1 else 0#1 := by decide
theorem lt5 : ∀ x : Fin 8, IntOp.cmpi CmpIPredicate.slt (BitVec.ofNat 32 x.val) 5#32 = if x.val < 5 then 1#1 else 0#1 := by decide

theorem select100 (x : Fin 128) (a b : EReal) :
    Scalar.select (IntOp.cmpi CmpIPredicate.slt (BitVec.ofNat 32 x.val) 100#32) a b = if x.val < 100 then a else b := by
  rw [lt100]; split <;> simp [Scalar.select]
theorem select5 (x : Fin 8) (a b : EReal) :
    Scalar.select (IntOp.cmpi CmpIPredicate.slt (BitVec.ofNat 32 x.val) 5#32) a b = if x.val < 5 then a else b := by
  rw [lt5]; split <;> simp [Scalar.select]

/-- A lane of a gather, of the relation vectors, and the negatives' products with them. -/
abbrev lane (v : FVec Ideal S128x8192 .f32) (l : Fin 8192) : Fin 128 → EReal := fun x => v (ix2 x l)
abbrev vec (x3 : Vec Ideal S128x8 .f32) (i : Fin 8) : Fin 128 → EReal := fun x => x3 (ix2 x i)
abbrev prod (q : Fin 8 → Vec Ideal S8x1 .f32) (i : Fin 8) : Fin 8 → EReal := fun k => q i (ix2 k 0)

set_option maxHeartbeats 1600000 in
theorem lossHead_lane (v20 v31 v42 : FVec Ideal S128x8192 .f32) (n : Vec Ideal S64x128 .bf16) (q : Fin 8 → Vec Ideal S8x1 .f32) (x3 : Vec Ideal S128x8 .f32) (l : Fin 8192) :
   lossHead v20 v31 v42 n q x3 (ix2 0 l)
    = posL (lane v20 l) (vec x3 0) (lane v31 l) (v31 (ix2 100 l)) + negL (fun k x => n (ix2 ⟨k.val, by omega⟩ x)) (lane v20 l) (prod q 0) (v31 (ix2 100 l))
      + posL (lane v20 l) (vec x3 1) (lane v42 l) (v42 (ix2 100 l)) + negL (fun k x => n (ix2 ⟨8 + k.val, by omega⟩ x)) (lane v20 l) (prod q 1) (v42 (ix2 100 l))
      + posL (lane v31 l) (vec x3 2) (lane v42 l) (v42 (ix2 101 l)) := by
  pointwise [lossHead, k0_pay79, k0_pay78, k0_pay77, k0_pay76, k0_pay75, k0_pay74, k0_pay73, k0_pay72, k0_pay71, k0_pay70, k0_pay69, k0_pay68, k0_pay67, k0_pay66, k0_pay65, k0_pay44, k0_pay45]
  simp only [select100, select5, zero_sub', posL, negL, sp, lane, vec, prod]

set_option maxHeartbeats 1600000 in
theorem lossMid_lane (v31 v42 v53 v64 v75 : FVec Ideal S128x8192 .f32) (y : FVec Ideal S1x8192 .f32) (n : Vec Ideal S64x128 .bf16) (q : Fin 8 → Vec Ideal S8x1 .f32) (x3 : Vec Ideal S128x8 .f32) (l : Fin 8192) :
   lossMid v31 v42 v53 v64 v75 y n q x3 (ix2 0 l)
    = y (ix2 0 l) + negL (fun k x => n (ix2 ⟨16 + k.val, by omega⟩ x)) (lane v31 l) (prod q 2) (v42 (ix2 101 l))
      + posL (lane v31 l) (vec x3 3) (lane v53 l) (v53 (ix2 100 l)) + negL (fun k x => n (ix2 ⟨16 + (8 + k.val), by omega⟩ x)) (lane v31 l) (prod q 3) (v53 (ix2 100 l))
      + posL (lane v31 l) (vec x3 4) (lane v64 l) (v64 (ix2 100 l)) + negL (fun k x => n (ix2 ⟨16 + (16 + k.val), by omega⟩ x)) (lane v31 l) (prod q 4) (v64 (ix2 100 l))
      + posL (lane v31 l) (vec x3 5) (lane v75 l) (v75 (ix2 100 l)) + negL (fun k x => n (ix2 ⟨16 + (24 + k.val), by omega⟩ x)) (lane v31 l) (prod q 5) (v75 (ix2 100 l)) := by
  pointwise [lossMid, k0_pay87, k0_pay86, k0_pay85, k0_pay84, k0_pay83, k0_pay82, k0_pay81, k0_pay80, k0_pay78, k0_pay68, k0_pay66, k0_pay44, k0_pay45]
  simp only [select100, select5, zero_sub', posL, negL, sp, lane, vec, prod]

set_option maxHeartbeats 1600000 in
theorem lossTail_lane (v31 v86 v97 : FVec Ideal S128x8192 .f32) (y : FVec Ideal S1x8192 .f32) (n : Vec Ideal S64x128 .bf16) (q : Fin 8 → Vec Ideal S8x1 .f32) (x3 : Vec Ideal S128x8 .f32) (a : FVec Ideal S1x8192 .f32) (l : Fin 8192) :
   lossTail v31 v86 v97 y n q x3 a (ix2 0 l)
    = a (ix2 0 l) + (y (ix2 0 l)
      + posL (lane v31 l) (vec x3 6) (lane v86 l) (v86 (ix2 101 l)) + negL (fun k x => n (ix2 ⟨16 + (32 + k.val), by omega⟩ x)) (lane v31 l) (prod q 6) (v86 (ix2 101 l))
      + posL (lane v31 l) (vec x3 7) (lane v97 l) (v97 (ix2 102 l)) + negL (fun k x => n (ix2 ⟨16 + (40 + k.val), by omega⟩ x)) (lane v31 l) (prod q 7) (v97 (ix2 102 l))) := by
  pointwise [lossTail, k0_pay1, k0_pay93, k0_pay92, k0_pay91, k0_pay90, k0_pay89, k0_pay88, k0_pay68, k0_pay66, k0_pay44, k0_pay45]
  simp only [select100, select5, zero_sub', posL, negL, sp, lane, vec, prod]

end Cert.KernelIdeal.Hand

end
-- ==== Proof.KernelIdeal.Picks.lean ====
/- The gathers and the first point's stores read at an index: a one-hot product picks the table's row. -/
module

public import proofs.«01_k».proof.Proof.KernelIdeal.Lane
public import proofs.«01_k».proof.Proof.Model
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Tactic Cert.Model

theorem pick16 (w : BitVec 32) (k : Fin 1024) (hw : w = BitVec.ofNat 32 k.val) (f : Fin 1024 → EReal) :
    (∑ x : Fin 1024, Scalar.select (IntOp.cmpi CmpIPredicate.eq (BitVec.ofNat 16 x.val) (BitVec.setWidth 16 w)) (f x) 0) = f k := by
  have hk := k.isLt
  rw [← sum_pick f k]
  refine Finset.sum_congr rfl fun x _ => ?_
  have hx := x.isLt
  have : (BitVec.ofNat 16 x.val = BitVec.setWidth 16 w) ↔ x = k := by
    rw [hw, ← BitVec.toNat_inj, BitVec.toNat_setWidth, BitVec.toNat_ofNat, BitVec.toNat_ofNat, Fin.ext_iff]
    omega
  by_cases h : x = k
  · rw [if_pos h]; simp [Scalar.select, IntOp.cmpi, this.mpr h]
  · rw [if_neg h]; simp [Scalar.select, IntOp.cmpi, beq_eq_false_iff_ne.mpr (mt this.mp h)]

theorem pick32 (w : BitVec 32) (k : Fin 1024) (hw : w = BitVec.ofNat 32 k.val) (f : Fin 1024 → EReal) :
    (∑ x : Fin 1024, Scalar.select (IntOp.cmpi CmpIPredicate.eq w (BitVec.ofNat 32 x.val)) (f x) 0) = f k := by
  have hk := k.isLt
  rw [← sum_pick f k]
  refine Finset.sum_congr rfl fun x _ => ?_
  have hx := x.isLt
  have : (w = BitVec.ofNat 32 x.val) ↔ x = k := by
    rw [hw, ← BitVec.toNat_inj, BitVec.toNat_ofNat, BitVec.toNat_ofNat, Fin.ext_iff]
    omega
  by_cases h : x = k
  · rw [if_pos h]; simp [Scalar.select, IntOp.cmpi, this.mpr h]
  · rw [if_neg h]; simp [Scalar.select, IntOp.cmpi, beq_eq_false_iff_ne.mpr (mt this.mp h)]

theorem raw0_at (x0 : Vec Ideal S8x8192 .i32) (x2 : Vec Ideal S6x1024x128 .bf16) (d : Fin 128) (l : Fin 8192) (k : Fin 1024)
    (hk : x0 (ix2 0 l) = BitVec.ofNat 32 k.val) : raw0 x0 x2 (ix2 d l) = x2 (ix3 0 k d) := by
  pointwise [raw0, k0_pay46]
  exact pick16 _ k hk fun x => x2 (ix3 0 x d)

theorem raw1_at (x0 : Vec Ideal S8x8192 .i32) (x2 : Vec Ideal S6x1024x128 .bf16) (d : Fin 128) (l : Fin 8192) (k : Fin 1024)
    (hk : x0 (ix2 1 l) = BitVec.ofNat 32 k.val) : raw1 x0 x2 (ix2 d l) = x2 (ix3 1 k d) := by
  pointwise [raw1, k0_pay47]
  exact pick16 _ k hk fun x => x2 (ix3 1 x d)

theorem raw2_at (x0 : Vec Ideal S8x8192 .i32) (x2 : Vec Ideal S6x1024x128 .bf16) (d : Fin 128) (l : Fin 8192) (k : Fin 1024)
    (hk : x0 (ix2 2 l) = BitVec.ofNat 32 k.val) : raw2 x0 x2 (ix2 d l) = x2 (ix3 2 k d) := by
  pointwise [raw2, k0_pay49, k0_pay48]
  exact pick16 _ k hk fun x => x2 (ix3 2 x d)

theorem raw3_at (x0 : Vec Ideal S8x8192 .i32) (x2 : Vec Ideal S6x1024x128 .bf16) (d : Fin 128) (l : Fin 8192) (k : Fin 1024)
    (hk : x0 (ix2 3 l) = BitVec.ofNat 32 k.val) : raw3 x0 x2 (ix2 d l) = x2 (ix3 3 k d) := by
  pointwise [raw3, k0_pay50]
  exact pick16 _ k hk fun x => x2 (ix3 3 x d)

theorem raw4_at (x0 : Vec Ideal S8x8192 .i32) (x2 : Vec Ideal S6x1024x128 .bf16) (d : Fin 128) (l : Fin 8192) (k : Fin 1024)
    (hk : x0 (ix2 4 l) = BitVec.ofNat 32 k.val) : raw4 x0 x2 (ix2 d l) = x2 (ix3 4 k d) := by
  pointwise [raw4, k0_pay51]
  exact pick16 _ k hk fun x => x2 (ix3 4 x d)

theorem raw5_at (x0 : Vec Ideal S8x8192 .i32) (x2 : Vec Ideal S6x1024x128 .bf16) (d : Fin 128) (l : Fin 8192) (k : Fin 1024)
    (hk : x0 (ix2 5 l) = BitVec.ofNat 32 k.val) : raw5 x0 x2 (ix2 d l) = x2 (ix3 5 k d) := by
  pointwise [raw5, k0_pay53, k0_pay52]
  exact pick16 _ k hk fun x => x2 (ix3 5 x d)

theorem raw6_at (x0 : Vec Ideal S8x8192 .i32) (x2 : Vec Ideal S6x1024x128 .bf16) (d : Fin 128) (l : Fin 8192) (k : Fin 1024)
    (hk : x0 (ix2 6 l) = BitVec.ofNat 32 k.val) : raw6 x0 x2 (ix2 d l) = x2 (ix3 5 k d) := by
  pointwise [raw6, k0_pay54]
  exact pick16 _ k hk fun x => x2 (ix3 5 x d)

theorem raw7_at (x0 : Vec Ideal S8x8192 .i32) (x2 : Vec Ideal S6x1024x128 .bf16) (d : Fin 128) (l : Fin 8192) (k : Fin 1024)
    (hk : x0 (ix2 7 l) = BitVec.ofNat 32 k.val) : raw7 x0 x2 (ix2 d l) = x2 (ix3 5 k d) := by
  pointwise [raw7, k0_pay55]
  exact pick16 _ k hk fun x => x2 (ix3 5 x d)

theorem bit_f32 (b : BitVec 1) : FloatOps.sitofp (F := Ideal) FTy.f32 (BitVec.setWidth 32 b) = if b = 1#1 then (1 : EReal) else 0 := by
  rcases BitVec.eq_zero_or_eq_one b with rfl | rfl
  · show (((0 : ℤ) : ℝ) : EReal) = _
    simp
  · show (((1 : ℤ) : ℝ) : EReal) = _
    simp

theorem pickF (k : Fin 1024) (f : Fin 1024 → EReal) :
    (∑ x : Fin 1024, FloatOps.sitofp (F := Ideal) FTy.f32 (BitVec.setWidth 32 (IntOp.cmpi CmpIPredicate.eq (BitVec.ofNat 32 k.val) (BitVec.ofNat 32 x.val))) * f x) = f k := by
  rw [← pick32 (BitVec.ofNat 32 k.val) k rfl f]
  refine Finset.sum_congr rfl fun x _ => ?_
  rw [bit_f32]
  unfold Scalar.select
  by_cases hc : IntOp.cmpi CmpIPredicate.eq (BitVec.ofNat 32 k.val) (BitVec.ofNat 32 x.val) = 1#1
  · rw [if_pos hc, one_mul]; exact (if_pos hc).symm
  · rw [if_neg hc, zero_mul]; exact (if_neg hc).symm

/-- A value kept in the five slots that hold and the hundred coordinates that hold. -/
def keepIf (j : Fin 8) (d : Fin 128) (a : EReal) : EReal := if j.val < 5 ∧ d.val < 100 then a else 0

theorem keepIf_keepIf (j : Fin 8) (d : Fin 128) (a : EReal) : keepIf j d (keepIf j d a) = keepIf j d a := by
  unfold keepIf
  split <;> rfl

theorem mask (j : Fin 8) (d : Fin 128) (a : EReal) :
    Scalar.select (IntOp.andi (IntOp.cmpi CmpIPredicate.slt (BitVec.ofNat 32 j.val) 5#32) (IntOp.cmpi CmpIPredicate.slt (BitVec.ofNat 32 d.val) 100#32)) a 0
      = keepIf j d a := by
  rw [lt5, lt100]
  unfold keepIf
  by_cases h1 : j.val < 5 <;> by_cases h2 : d.val < 100 <;> simp [h1, h2, Scalar.select, IntOp.andi]

theorem negs0_at (x1 : Vec Ideal S8x8 .i32) (x2 : Vec Ideal S6x1024x128 .bf16) (κ : Fin 8 → Fin 1024) (hκ : ∀ j : Fin 8, x1 (ix2 j 0) = BitVec.ofNat 32 (κ j).val) (j : Fin 8) (d : Fin 128) :
    firstNegs x1 x2 0 (ix2 j d) = keepIf j d (x2 (ix3 1 (κ j) d)) := by
  pointwise [firstNegs, k0_pay5, k0_pay4]
  simp only [hκ, mask, pickF]

theorem prods0_at (x1 : Vec Ideal S8x8 .i32) (x2 : Vec Ideal S6x1024x128 .bf16) (x4 : Vec Ideal S64x128 .f32) (κ : Fin 8 → Fin 1024) (hκ : ∀ j : Fin 8, x1 (ix2 j 0) = BitVec.ofNat 32 (κ j).val) (j : Fin 8) :
    firstProds x1 x2 x4 0 (ix2 j 0)
      = ∑ d : Fin 128, keepIf j d (x2 (ix3 1 (κ j) d) * x4 (ix2 ⟨8 * 0 + j.val, by omega⟩ d)) := by
  pointwise [firstProds, k0_pay7, k0_pay4]
  simp only [hκ, mask, pickF]

theorem squares0_at (x1 : Vec Ideal S8x8 .i32) (x2 : Vec Ideal S6x1024x128 .bf16) (κ : Fin 8 → Fin 1024) (hκ : ∀ j : Fin 8, x1 (ix2 j 0) = BitVec.ofNat 32 (κ j).val) :
    firstSquares x1 x2 0 (ix2 0 0)
      = ∑ j : Fin 8, ∑ d : Fin 128, keepIf j d (x2 (ix3 1 (κ j) d) * x2 (ix3 1 (κ j) d)) := by
  pointwise [firstSquares, k0_pay6, k0_pay4]
  simp only [hκ, mask, pickF, keepIf_keepIf]

theorem negs1_at (x1 : Vec Ideal S8x8 .i32) (x2 : Vec Ideal S6x1024x128 .bf16) (κ : Fin 8 → Fin 1024) (hκ : ∀ j : Fin 8, x1 (ix2 j 1) = BitVec.ofNat 32 (κ j).val) (j : Fin 8) (d : Fin 128) :
    firstNegs x1 x2 1 (ix2 j d) = keepIf j d (x2 (ix3 2 (κ j) d)) := by
  pointwise [firstNegs, k0_pay9, k0_pay8]
  simp only [hκ, mask, pickF]

theorem prods1_at (x1 : Vec Ideal S8x8 .i32) (x2 : Vec Ideal S6x1024x128 .bf16) (x4 : Vec Ideal S64x128 .f32) (κ : Fin 8 → Fin 1024) (hκ : ∀ j : Fin 8, x1 (ix2 j 1) = BitVec.ofNat 32 (κ j).val) (j : Fin 8) :
    firstProds x1 x2 x4 1 (ix2 j 0)
      = ∑ d : Fin 128, keepIf j d (x2 (ix3 2 (κ j) d) * x4 (ix2 ⟨8 * 1 + j.val, by omega⟩ d)) := by
  pointwise [firstProds, k0_pay11, k0_pay8]
  simp only [hκ, mask, pickF]

theorem squares1_at (x1 : Vec Ideal S8x8 .i32) (x2 : Vec Ideal S6x1024x128 .bf16) (κ : Fin 8 → Fin 1024) (hκ : ∀ j : Fin 8, x1 (ix2 j 1) = BitVec.ofNat 32 (κ j).val) :
    firstSquares x1 x2 1 (ix2 0 0)
      = ∑ j : Fin 8, ∑ d : Fin 128, keepIf j d (x2 (ix3 2 (κ j) d) * x2 (ix3 2 (κ j) d)) := by
  pointwise [firstSquares, k0_pay10, k0_pay8]
  simp only [hκ, mask, pickF, keepIf_keepIf]

theorem negs2_at (x1 : Vec Ideal S8x8 .i32) (x2 : Vec Ideal S6x1024x128 .bf16) (κ : Fin 8 → Fin 1024) (hκ : ∀ j : Fin 8, x1 (ix2 j 2) = BitVec.ofNat 32 (κ j).val) (j : Fin 8) (d : Fin 128) :
    firstNegs x1 x2 2 (ix2 j d) = keepIf j d (x2 (ix3 2 (κ j) d)) := by
  pointwise [firstNegs, k0_pay13, k0_pay12]
  simp only [hκ, mask, pickF]

theorem prods2_at (x1 : Vec Ideal S8x8 .i32) (x2 : Vec Ideal S6x1024x128 .bf16) (x4 : Vec Ideal S64x128 .f32) (κ : Fin 8 → Fin 1024) (hκ : ∀ j : Fin 8, x1 (ix2 j 2) = BitVec.ofNat 32 (κ j).val) (j : Fin 8) :
    firstProds x1 x2 x4 2 (ix2 j 0)
      = ∑ d : Fin 128, keepIf j d (x2 (ix3 2 (κ j) d) * x4 (ix2 ⟨8 * 2 + j.val, by omega⟩ d)) := by
  pointwise [firstProds, k0_pay16, k0_pay12]
  simp only [hκ, mask, pickF]

theorem squares2_at (x1 : Vec Ideal S8x8 .i32) (x2 : Vec Ideal S6x1024x128 .bf16) (κ : Fin 8 → Fin 1024) (hκ : ∀ j : Fin 8, x1 (ix2 j 2) = BitVec.ofNat 32 (κ j).val) :
    firstSquares x1 x2 2 (ix2 0 0)
      = ∑ j : Fin 8, ∑ d : Fin 128, keepIf j d (x2 (ix3 2 (κ j) d) * x2 (ix3 2 (κ j) d)) := by
  pointwise [firstSquares, k0_pay15, k0_pay14, k0_pay12]
  simp only [hκ, mask, pickF, keepIf_keepIf]

theorem negs3_at (x1 : Vec Ideal S8x8 .i32) (x2 : Vec Ideal S6x1024x128 .bf16) (κ : Fin 8 → Fin 1024) (hκ : ∀ j : Fin 8, x1 (ix2 j 3) = BitVec.ofNat 32 (κ j).val) (j : Fin 8) (d : Fin 128) :
    firstNegs x1 x2 3 (ix2 j d) = keepIf j d (x2 (ix3 3 (κ j) d)) := by
  pointwise [firstNegs, k0_pay18, k0_pay17]
  simp only [hκ, mask, pickF]

theorem prods3_at (x1 : Vec Ideal S8x8 .i32) (x2 : Vec Ideal S6x1024x128 .bf16) (x4 : Vec Ideal S64x128 .f32) (κ : Fin 8 → Fin 1024) (hκ : ∀ j : Fin 8, x1 (ix2 j 3) = BitVec.ofNat 32 (κ j).val) (j : Fin 8) :
    firstProds x1 x2 x4 3 (ix2 j 0)
      = ∑ d : Fin 128, keepIf j d (x2 (ix3 3 (κ j) d) * x4 (ix2 ⟨8 * 3 + j.val, by omega⟩ d)) := by
  pointwise [firstProds, k0_pay21, k0_pay17]
  simp only [hκ, mask, pickF]

theorem squares3_at (x1 : Vec Ideal S8x8 .i32) (x2 : Vec Ideal S6x1024x128 .bf16) (κ : Fin 8 → Fin 1024) (hκ : ∀ j : Fin 8, x1 (ix2 j 3) = BitVec.ofNat 32 (κ j).val) :
    firstSquares x1 x2 3 (ix2 0 0)
      = ∑ j : Fin 8, ∑ d : Fin 128, keepIf j d (x2 (ix3 3 (κ j) d) * x2 (ix3 3 (κ j) d)) := by
  pointwise [firstSquares, k0_pay20, k0_pay19, k0_pay17]
  simp only [hκ, mask, pickF, keepIf_keepIf]

theorem negs4_at (x1 : Vec Ideal S8x8 .i32) (x2 : Vec Ideal S6x1024x128 .bf16) (κ : Fin 8 → Fin 1024) (hκ : ∀ j : Fin 8, x1 (ix2 j 4) = BitVec.ofNat 32 (κ j).val) (j : Fin 8) (d : Fin 128) :
    firstNegs x1 x2 4 (ix2 j d) = keepIf j d (x2 (ix3 4 (κ j) d)) := by
  pointwise [firstNegs, k0_pay23, k0_pay22]
  simp only [hκ, mask, pickF]

theorem prods4_at (x1 : Vec Ideal S8x8 .i32) (x2 : Vec Ideal S6x1024x128 .bf16) (x4 : Vec Ideal S64x128 .f32) (κ : Fin 8 → Fin 1024) (hκ : ∀ j : Fin 8, x1 (ix2 j 4) = BitVec.ofNat 32 (κ j).val) (j : Fin 8) :
    firstProds x1 x2 x4 4 (ix2 j 0)
      = ∑ d : Fin 128, keepIf j d (x2 (ix3 4 (κ j) d) * x4 (ix2 ⟨8 * 4 + j.val, by omega⟩ d)) := by
  pointwise [firstProds, k0_pay26, k0_pay22]
  simp only [hκ, mask, pickF]

theorem squares4_at (x1 : Vec Ideal S8x8 .i32) (x2 : Vec Ideal S6x1024x128 .bf16) (κ : Fin 8 → Fin 1024) (hκ : ∀ j : Fin 8, x1 (ix2 j 4) = BitVec.ofNat 32 (κ j).val) :
    firstSquares x1 x2 4 (ix2 0 0)
      = ∑ j : Fin 8, ∑ d : Fin 128, keepIf j d (x2 (ix3 4 (κ j) d) * x2 (ix3 4 (κ j) d)) := by
  pointwise [firstSquares, k0_pay25, k0_pay24, k0_pay22]
  simp only [hκ, mask, pickF, keepIf_keepIf]

theorem negs5_at (x1 : Vec Ideal S8x8 .i32) (x2 : Vec Ideal S6x1024x128 .bf16) (κ : Fin 8 → Fin 1024) (hκ : ∀ j : Fin 8, x1 (ix2 j 5) = BitVec.ofNat 32 (κ j).val) (j : Fin 8) (d : Fin 128) :
    firstNegs x1 x2 5 (ix2 j d) = keepIf j d (x2 (ix3 5 (κ j) d)) := by
  pointwise [firstNegs, k0_pay28, k0_pay27]
  simp only [hκ, mask, pickF]

theorem prods5_at (x1 : Vec Ideal S8x8 .i32) (x2 : Vec Ideal S6x1024x128 .bf16) (x4 : Vec Ideal S64x128 .f32) (κ : Fin 8 → Fin 1024) (hκ : ∀ j : Fin 8, x1 (ix2 j 5) = BitVec.ofNat 32 (κ j).val) (j : Fin 8) :
    firstProds x1 x2 x4 5 (ix2 j 0)
      = ∑ d : Fin 128, keepIf j d (x2 (ix3 5 (κ j) d) * x4 (ix2 ⟨8 * 5 + j.val, by omega⟩ d)) := by
  pointwise [firstProds, k0_pay31, k0_pay27]
  simp only [hκ, mask, pickF]

theorem squares5_at (x1 : Vec Ideal S8x8 .i32) (x2 : Vec Ideal S6x1024x128 .bf16) (κ : Fin 8 → Fin 1024) (hκ : ∀ j : Fin 8, x1 (ix2 j 5) = BitVec.ofNat 32 (κ j).val) :
    firstSquares x1 x2 5 (ix2 0 0)
      = ∑ j : Fin 8, ∑ d : Fin 128, keepIf j d (x2 (ix3 5 (κ j) d) * x2 (ix3 5 (κ j) d)) := by
  pointwise [firstSquares, k0_pay30, k0_pay29, k0_pay27]
  simp only [hκ, mask, pickF, keepIf_keepIf]

theorem negs6_at (x1 : Vec Ideal S8x8 .i32) (x2 : Vec Ideal S6x1024x128 .bf16) (κ : Fin 8 → Fin 1024) (hκ : ∀ j : Fin 8, x1 (ix2 j 6) = BitVec.ofNat 32 (κ j).val) (j : Fin 8) (d : Fin 128) :
    firstNegs x1 x2 6 (ix2 j d) = keepIf j d (x2 (ix3 5 (κ j) d)) := by
  pointwise [firstNegs, k0_pay34, k0_pay33, k0_pay32]
  simp only [hκ, mask, pickF]

theorem prods6_at (x1 : Vec Ideal S8x8 .i32) (x2 : Vec Ideal S6x1024x128 .bf16) (x4 : Vec Ideal S64x128 .f32) (κ : Fin 8 → Fin 1024) (hκ : ∀ j : Fin 8, x1 (ix2 j 6) = BitVec.ofNat 32 (κ j).val) (j : Fin 8) :
    firstProds x1 x2 x4 6 (ix2 j 0)
      = ∑ d : Fin 128, keepIf j d (x2 (ix3 5 (κ j) d) * x4 (ix2 ⟨8 * 6 + j.val, by omega⟩ d)) := by
  pointwise [firstProds, k0_pay36, k0_pay32]
  simp only [hκ, mask, pickF]

theorem squares6_at (x1 : Vec Ideal S8x8 .i32) (x2 : Vec Ideal S6x1024x128 .bf16) (κ : Fin 8 → Fin 1024) (hκ : ∀ j : Fin 8, x1 (ix2 j 6) = BitVec.ofNat 32 (κ j).val) :
    firstSquares x1 x2 6 (ix2 0 0)
      = ∑ j : Fin 8, ∑ d : Fin 128, keepIf j d (x2 (ix3 5 (κ j) d) * x2 (ix3 5 (κ j) d)) := by
  pointwise [firstSquares, k0_pay35, k0_pay32]
  simp only [hκ, mask, pickF, keepIf_keepIf]

theorem negs7_at (x1 : Vec Ideal S8x8 .i32) (x2 : Vec Ideal S6x1024x128 .bf16) (κ : Fin 8 → Fin 1024) (hκ : ∀ j : Fin 8, x1 (ix2 j 7) = BitVec.ofNat 32 (κ j).val) (j : Fin 8) (d : Fin 128) :
    firstNegs x1 x2 7 (ix2 j d) = keepIf j d (x2 (ix3 5 (κ j) d)) := by
  pointwise [firstNegs, k0_pay41, k0_pay38, k0_pay37]
  simp only [hκ, mask, pickF]

theorem prods7_at (x1 : Vec Ideal S8x8 .i32) (x2 : Vec Ideal S6x1024x128 .bf16) (x4 : Vec Ideal S64x128 .f32) (κ : Fin 8 → Fin 1024) (hκ : ∀ j : Fin 8, x1 (ix2 j 7) = BitVec.ofNat 32 (κ j).val) (j : Fin 8) :
    firstProds x1 x2 x4 7 (ix2 j 0)
      = ∑ d : Fin 128, keepIf j d (x2 (ix3 5 (κ j) d) * x4 (ix2 ⟨8 * 7 + j.val, by omega⟩ d)) := by
  pointwise [firstProds, k0_pay43, k0_pay37]
  simp only [hκ, mask, pickF]

theorem squares7_at (x1 : Vec Ideal S8x8 .i32) (x2 : Vec Ideal S6x1024x128 .bf16) (κ : Fin 8 → Fin 1024) (hκ : ∀ j : Fin 8, x1 (ix2 j 7) = BitVec.ofNat 32 (κ j).val) :
    firstSquares x1 x2 7 (ix2 0 0)
      = ∑ j : Fin 8, ∑ d : Fin 128, keepIf j d (x2 (ix3 5 (κ j) d) * x2 (ix3 5 (κ j) d)) := by
  pointwise [firstSquares, k0_pay42, k0_pay37]
  simp only [hκ, mask, pickF, keepIf_keepIf]

theorem norms0_at (v : FVec Ideal S128x8192 .f32) (a : Vec Ideal S1x8192 .f32) (l : Fin 8192) :
    k0_pay56 v a (ix2 0 l) = a (ix2 0 l) + v (ix2 103 l) := by
  pointwise [k0_pay56]

theorem norms1_at (v : FVec Ideal S128x8192 .f32) (a : Vec Ideal S1x8192 .f32) (l : Fin 8192) :
    k0_pay57 v a (ix2 0 l) = a (ix2 0 l) + v (ix2 103 l) := by
  pointwise [k0_pay57]

theorem norms2_at (v : FVec Ideal S128x8192 .f32) (a : Vec Ideal S1x8192 .f32) (l : Fin 8192) :
    k0_pay58 v a (ix2 0 l) = a (ix2 0 l) + v (ix2 103 l) := by
  pointwise [k0_pay58]

theorem norms3_at (v : FVec Ideal S128x8192 .f32) (a : Vec Ideal S1x8192 .f32) (l : Fin 8192) :
    k0_pay59 v a (ix2 0 l) = a (ix2 0 l) + v (ix2 103 l) := by
  pointwise [k0_pay59]

theorem norms4_at (v : FVec Ideal S128x8192 .f32) (a : Vec Ideal S1x8192 .f32) (l : Fin 8192) :
    k0_pay60 v a (ix2 0 l) = a (ix2 0 l) + v (ix2 103 l) := by
  pointwise [k0_pay60]

theorem norms5_at (v : FVec Ideal S128x8192 .f32) (a : Vec Ideal S1x8192 .f32) (l : Fin 8192) :
    k0_pay61 v a (ix2 0 l) = a (ix2 0 l) + v (ix2 103 l) := by
  pointwise [k0_pay61]

theorem norms6_at (v : FVec Ideal S128x8192 .f32) (a : Vec Ideal S1x8192 .f32) (l : Fin 8192) :
    k0_pay63 (k0_pay62 v a) (ix2 0 l) = a (ix2 0 l) + v (ix2 103 l) := by
  pointwise [k0_pay63, k0_pay62]

theorem norms7_at (v : FVec Ideal S128x8192 .f32) (a : Vec Ideal S1x8192 .f32) (l : Fin 8192) :
    k0_pay64 v a (ix2 0 l) = a (ix2 0 l) + v (ix2 103 l) := by
  pointwise [k0_pay64]

end Cert.KernelIdeal.Hand

end
-- ==== Proof.Total.lean ====
/- The loss in extended real arithmetic, summed over the batch and the relations: the kernel sums the batch in two halves and
   the relations inside the sum, and doubles a norm that the reference adds twice. -/
module

public import proofs.«01_k».proof.Proof.Model

@[expose] public section

set_option maxRecDepth 16384

noncomputable section

namespace Cert.Model

open Idealize.ShloMosaic

theorem ofBits_two : Ideal.ofBits .f32 0x40000000#32 = ((2 : ℝ) : EReal) := by
  simp [Ideal.ofBits, Ideal.ieee, -EReal.coe_mul]; norm_num

theorem ofBits_seven : Ideal.ofBits .f32 0x40E00000#32 = ((7 : ℝ) : EReal) := by
  simp [Ideal.ofBits, Ideal.ieee, -EReal.coe_mul]; norm_num

theorem ofBits_batch : Ideal.ofBits .f32 0x46800000#32 = ((16384 : ℝ) : EReal) := by
  simp [Ideal.ofBits, Ideal.ieee, -EReal.coe_mul]; norm_num

theorem ofBits_inv_batch : Ideal.ofBits .f32 0x38800000#32 = ((1 / 16384 : ℝ) : EReal) := by
  simp [Ideal.ofBits, Ideal.ieee, -EReal.coe_mul]; norm_num

theorem sqrt_nonneg' {x : EReal} (h : 0 ≤ x) : 0 ≤ Ideal.sqrt x := by
  induction x using EReal.rec with
  | bot => exact absurd h (by simp)
  | top => rw [Ideal.sqrt_top]; exact le_top
  | coe r =>
    have hr : 0 ≤ r := by exact_mod_cast h
    rw [Ideal.sqrt_coe, if_neg (by linarith)]
    exact_mod_cast Real.sqrt_nonneg r

theorem mul_self_nonneg' (x : EReal) : 0 ≤ x * x := by
  rcases le_total 0 x with h | h
  · exact mul_nonneg h h
  · rw [← neg_mul_neg]; exact mul_nonneg (EReal.neg_nonneg.mpr h) (EReal.neg_nonneg.mpr h)

theorem two_mul' {x : EReal} (_h : 0 ≤ x) : ((2 : ℝ) : EReal) * x = x + x := by
  induction x using EReal.rec with
  | bot => exact absurd _h (by simp)
  | top => rw [EReal.coe_mul_top_of_pos (by norm_num)]; rfl
  | coe r => rw [← EReal.coe_mul, ← EReal.coe_add]; congr 1; ring

theorem seven_mul' {x : EReal} (_h : 0 ≤ x) : ((7 : ℝ) : EReal) * x = x + x + x + x + x + x + x := by
  induction x using EReal.rec with
  | bot => exact absurd _h (by simp)
  | top => rw [EReal.coe_mul_top_of_pos (by norm_num)]; rfl
  | coe r => simp only [← EReal.coe_mul, ← EReal.coe_add]; congr 1; ring

/-- A sum over the batch, by its two halves. -/
theorem sum_halves (f : Fin 16384 → EReal) :
    ∑ x : Fin 8192, (0 + f ⟨x.val, by omega⟩ + f ⟨8192 + x.val, by omega⟩) = ∑ b, f b := by
  rw [show ∑ b, f b = ∑ b : Fin (8192 + 8192), f b from rfl, Fin.sum_univ_add, ← Finset.sum_add_distrib]
  refine Finset.sum_congr rfl fun x _ => ?_
  rw [zero_add]; rfl

/-- The eight relations' means, against the mean of their sum. -/
theorem mean_sum (T : Fin 8 → Fin 16384 → EReal) (hT : ∀ i b, 0 ≤ T i b) :
    (∑ b, (T 0 b + T 1 b + T 2 b + T 3 b + T 4 b + T 5 b + T 6 b + T 7 b)) * Ideal.ofBits .f32 0x38800000#32
      = Ideal.div (∑ b, T 0 b) (Ideal.ofBits .f32 0x46800000#32) + Ideal.div (∑ b, T 1 b) (Ideal.ofBits .f32 0x46800000#32)
        + Ideal.div (∑ b, T 2 b) (Ideal.ofBits .f32 0x46800000#32) + Ideal.div (∑ b, T 3 b) (Ideal.ofBits .f32 0x46800000#32)
        + Ideal.div (∑ b, T 4 b) (Ideal.ofBits .f32 0x46800000#32) + Ideal.div (∑ b, T 5 b) (Ideal.ofBits .f32 0x46800000#32)
        + Ideal.div (∑ b, T 6 b) (Ideal.ofBits .f32 0x46800000#32) + Ideal.div (∑ b, T 7 b) (Ideal.ofBits .f32 0x46800000#32) := by
  have hS : ∀ i, 0 ≤ ∑ b, T i b := fun i => Finset.sum_nonneg fun b _ => hT i b
  simp only [Finset.sum_add_distrib]
  rw [ofBits_batch, ofBits_inv_batch]
  simp only [Ideal.div_coe (show (16384 : ℝ) ≠ 0 by norm_num)]
  generalize ((1 / 16384 : ℝ) : EReal) = q
  have h : ∀ (x : EReal) (i : Fin 8), 0 ≤ x → (x + ∑ b, T i b) * q = x * q + (∑ b, T i b) * q := fun x i hx =>
    EReal.right_distrib_of_nonneg hx (hS i)
  have p1 := add_nonneg (hS 0) (hS 1)
  have p2 := add_nonneg p1 (hS 2)
  have p3 := add_nonneg p2 (hS 3)
  have p4 := add_nonneg p3 (hS 4)
  have p5 := add_nonneg p4 (hS 5)
  have p6 := add_nonneg p5 (hS 6)
  rw [h _ 7 p6, h _ 6 p5, h _ 5 p4, h _ 4 p3, h _ 3 p2, h _ 2 p1, h _ 1 (hS 0)]

/-- The norms: of the eight gathers the kernel takes the first three twice, seven times and twice. -/
theorem norm_sum (G M : Fin 8 → EReal) (hG : ∀ i, 0 ≤ G i) :
    Ideal.ofBits .f32 0x40000000#32 * G 0 + Ideal.ofBits .f32 0x40E00000#32 * G 1 + Ideal.ofBits .f32 0x40000000#32 * G 2
        + G 3 + G 4 + G 5 + G 6 + G 7 + M 0 + M 1 + M 2 + M 3 + M 4 + M 5 + M 6 + M 7
      = G 0 + G 1 + M 0 + G 0 + G 2 + M 1 + G 1 + G 2 + M 2 + G 1 + G 3 + M 3 + G 1 + G 4 + M 4 + G 1 + G 5 + M 5 + G 1 + G 6 + M 6 + G 1 + G 7 + M 7 := by
  rw [ofBits_two, ofBits_seven, two_mul' (hG 0), two_mul' (hG 2), seven_mul' (hG 1)]
  ac_rfl

end Cert.Model

end
-- ==== Proof.Loss.lean ====
/- The loss as a function of the indices, the tables, the relation vectors and the biases: the form that both programs are brought to. -/
module

public import proofs.«01_k».proof.Proof.Total

@[expose] public section

set_option maxRecDepth 16384

noncomputable section

namespace Cert.Model

open Idealize.ShloMosaic

/-- The batch's indices by column, each relation's negatives, the first thousand rows of the six tables, the relation vectors
    and the first thousand biases of each relation. -/
structure Data where
  ι : Fin 8 → Fin 16384 → Fin 1000
  ν : Fin 8 → Fin 5 → Fin 1000
  tab : Fin 6 → Fin 1000 → Fin 100 → EReal
  rel : Fin 8 → Fin 100 → EReal
  bias : Fin 8 → Fin 1000 → EReal

namespace Data

variable (D : Data)

/-- The table that a column of the batch indexes, -/
def slot : Fin 8 → Fin 6 := ![0, 1, 2, 3, 4, 5, 5, 5]
/-- and the columns that hold a relation's head and its tail. -/
def hd : Fin 8 → Fin 8 := ![0, 0, 1, 1, 1, 1, 1, 1]
def tl : Fin 8 → Fin 8 := ![1, 2, 2, 3, 4, 5, 6, 7]

/-- The row that an example's column names. -/
def row (g : Fin 8) (b : Fin 16384) : Fin 100 → EReal := D.tab (slot g) (D.ι g b)
/-- A relation's negative rows. -/
def neg (i : Fin 8) (k : Fin 5) : Fin 100 → EReal := D.tab (slot (tl i)) (D.ν i k)

/-- A relation's term for an example. -/
def T (i : Fin 8) (b : Fin 16384) : EReal := term (D.row (hd i) b) (D.rel i) (D.row (tl i) b) (D.bias i (D.ι (tl i) b)) (D.neg i)

/-- The norm of a column's rows, and of a relation's negative rows. -/
def G (g : Fin 8) : EReal := Ideal.sqrt (∑ b, ∑ d, D.row g b d * D.row g b d)
def M (i : Fin 8) : EReal := Ideal.sqrt (∑ k, ∑ d, D.neg i k d * D.neg i k d)

theorem T_nonneg (i : Fin 8) (b : Fin 16384) : 0 ≤ D.T i b := term_nonneg ..

theorem G_nonneg (g : Fin 8) : 0 ≤ D.G g :=
  sqrt_nonneg' (Finset.sum_nonneg fun _ _ => Finset.sum_nonneg fun _ _ => mul_self_nonneg' _)

/-- A relation's mean. -/
def mean (i : Fin 8) : EReal := Ideal.div (∑ b, D.T i b) (Ideal.ofBits .f32 0x46800000#32)

/-- The loss, as the reference adds it up, -/
def loss : EReal :=
  (D.mean 0 + D.mean 1 + D.mean 2 + D.mean 3 + D.mean 4 + D.mean 5 + D.mean 6 + D.mean 7)
    + Ideal.ofBits .f32 0x3A83126F#32 * (D.G 0 + D.G 1 + D.M 0 + D.G 0 + D.G 2 + D.M 1 + D.G 1 + D.G 2 + D.M 2 + D.G 1 + D.G 3 + D.M 3
      + D.G 1 + D.G 4 + D.M 4 + D.G 1 + D.G 5 + D.M 5 + D.G 1 + D.G 6 + D.M 6 + D.G 1 + D.G 7 + D.M 7)

/-- and as the kernel does: an example's eight terms, -/
def terms (b : Fin 16384) : EReal := D.T 0 b + D.T 1 b + D.T 2 b + D.T 3 b + D.T 4 b + D.T 5 b + D.T 6 b + D.T 7 b

theorem loss_eq : (∑ x : Fin 8192, (0 + D.terms ⟨x.val, by omega⟩ + D.terms ⟨8192 + x.val, by omega⟩)) * Ideal.ofBits .f32 0x38800000#32
      + Ideal.ofBits .f32 0x3A83126F#32 * (Ideal.ofBits .f32 0x40000000#32 * D.G 0 + Ideal.ofBits .f32 0x40E00000#32 * D.G 1
        + Ideal.ofBits .f32 0x40000000#32 * D.G 2 + D.G 3 + D.G 4 + D.G 5 + D.G 6 + D.G 7 + D.M 0 + D.M 1 + D.M 2 + D.M 3 + D.M 4 + D.M 5 + D.M 6 + D.M 7)
    = D.loss := by
  rw [sum_halves D.terms, norm_sum D.G D.M D.G_nonneg]
  unfold terms
  rw [mean_sum D.T D.T_nonneg]
  rfl

end Data

end Cert.Model

end
-- ==== Proof.KernelIdeal.BlockSum.lean ====
/- What the two points compute, when the blocks hold the data: each lane of the loss row gains its example's terms, each lane of the
   other rows a squared norm, and what the last point writes is the loss. -/
module

public import proofs.«01_k».proof.Proof.KernelIdeal.Picks
public import proofs.«01_k».proof.Proof.Loss

@[expose] public section

set_option maxRecDepth 16384

noncomputable section

namespace Cert.KernelIdeal.Hand

open Cert.KernelIdeal Cert.KernelIdeal.Gen Idealize.ShloMosaic Idealize.ShloMosaic.TcCoe Idealize.ShloMosaic.Tactic Cert.Model Cert.Model.Data

/-- An index below a thousand among the staged table's rows, and a coordinate below a hundred among its columns. -/
abbrev up (k : Fin 1000) : Fin 1024 := ⟨k.val, by omega⟩
abbrev upd (d : Fin 100) : Fin 128 := ⟨d.val, by omega⟩
abbrev up5 (k : Fin 5) : Fin 8 := ⟨k.val, by omega⟩

/-- The column of the staged table in which a relation's bias is. -/
def br : Fin 8 → Fin 128 := ![100, 100, 101, 100, 100, 100, 101, 102]

/-- A relation's negatives, the last three slots at zero. -/
def kap (D : Data) (i : Fin 8) (j : Fin 8) : Fin 1024 := if h : j.val < 5 then up (D.ν i ⟨j.val, h⟩) else 0

/-- The staged tables hold the data, -/
structure HasTab (D : Data) (x2 : Vec Ideal S6x1024x128 .bf16) : Prop where
  tab : ∀ s k d, x2 (ix3 s (up k) (upd d)) = D.tab s k d
  bias : ∀ i k, x2 (ix3 (slot (tl i)) (up k) (br i)) = D.bias i k
  norm : ∀ s k, x2 (ix3 s (up k) 103) = ∑ d, D.tab s k d * D.tab s k d

/-- the staged relation vectors do, -/
structure HasRel (D : Data) (x3 : Vec Ideal S128x8 .f32) : Prop where
  rel : ∀ d i, x3 (ix2 (upd d) i) = D.rel i d
  pad : ∀ (d : Fin 128) (i : Fin 8), 100 ≤ d.val → x3 (ix2 d i) = (0 : EReal)

/-- the kept negative rows and their products with the relation vectors do, -/
structure HasNeg (D : Data) (n : Vec Ideal S64x128 .bf16) (q : Fin 8 → Vec Ideal S8x1 .f32) : Prop where
  neg : ∀ (r : Fin 64) (i : Fin 8) (k : Fin 5) (d : Fin 100), r.val = 8 * i.val + k.val → n (ix2 r (upd d)) = D.neg i k d
  prod : ∀ (i : Fin 8) (k : Fin 5), q i (ix2 (up5 k) 0) = ∑ d, D.neg i k d * D.rel i d

/-- and the batch's block does, lane `l` holding example `e l`. -/
def HasBatch (D : Data) (e : Fin 8192 → Fin 16384) (x0 : Vec Ideal S8x8192 .i32) : Prop :=
  ∀ g l, x0 (ix2 g l) = BitVec.ofNat 32 (up (D.ι g (e l))).val

/-- A tail is in another table than the first, -/
theorem tail_ne (i : Fin 8) : slot (tl i) ≠ 0 := by
  fin_cases i <;> decide

/-- in which the embeddings are finite, as the relation vectors are. -/
structure IsFinite (D : Data) : Prop where
  tab : ∀ s k d, s ≠ 0 → Fin' (D.tab s k d)
  rel : ∀ i d, Fin' (D.rel i d)

/-- The eight gathers. -/
def rawF (x0 : Vec Ideal S8x8192 .i32) (x2 : Vec Ideal S6x1024x128 .bf16) : Fin 8 → FVec Ideal S128x8192 .f32 :=
  ![raw0 x0 x2, raw1 x0 x2, raw2 x0 x2, raw3 x0 x2, raw4 x0 x2, raw5 x0 x2, raw6 x0 x2, raw7 x0 x2]

section
variable {D : Data} {e : Fin 8192 → Fin 16384} {x0 : Vec Ideal S8x8192 .i32} {x2 : Vec Ideal S6x1024x128 .bf16} {x3 : Vec Ideal S128x8 .f32}
variable {n : Vec Ideal S64x128 .bf16} {q : Fin 8 → Vec Ideal S8x1 .f32}

theorem rawF_at (H0 : HasBatch D e x0) (g : Fin 8) (d : Fin 128) (l : Fin 8192) :
    rawF x0 x2 g (ix2 d l) = x2 (ix3 (slot g) (up (D.ι g (e l))) d) := by
  match g with
  | 0 => exact raw0_at x0 x2 d l _ (H0 0 l)
  | 1 => exact raw1_at x0 x2 d l _ (H0 1 l)
  | 2 => exact raw2_at x0 x2 d l _ (H0 2 l)
  | 3 => exact raw3_at x0 x2 d l _ (H0 3 l)
  | 4 => exact raw4_at x0 x2 d l _ (H0 4 l)
  | 5 => exact raw5_at x0 x2 d l _ (H0 5 l)
  | 6 => exact raw6_at x0 x2 d l _ (H0 6 l)
  | 7 => exact raw7_at x0 x2 d l _ (H0 7 l)

/-- A relation's two parts in a lane are its term for the lane's example. -/
theorem rel_term (F : IsFinite D) (H0 : HasBatch D e x0) (H2 : HasTab D x2) (H3 : HasRel D x3) (HN : HasNeg D n q) (i : Fin 8) (l : Fin 8192)
    (ρ : Fin 8 → Fin 64) (hρ : ∀ k, (ρ k).val = 8 * i.val + k.val) :
    posL (lane (rawF x0 x2 (hd i)) l) (vec x3 i) (lane (rawF x0 x2 (tl i)) l) (rawF x0 x2 (tl i) (ix2 (br i) l))
      + negL (fun k x => n (ix2 (ρ k) x)) (lane (rawF x0 x2 (hd i)) l) (prod q i) (rawF x0 x2 (tl i) (ix2 (br i) l)) = D.T i (e l) := by
  rw [parts_eq (h := D.row (hd i) (e l)) (r := D.rel i) (t := D.row (tl i) (e l)) (n := D.neg i)
    (hH := fun d => (rawF_at H0 _ _ _).trans (H2.tab _ _ d)) (hR := fun d => H3.rel d i) (hR0 := fun d hd => H3.pad d i hd)
    (hT := fun d => (rawF_at H0 _ _ _).trans (H2.tab _ _ d))
    (hN := fun k d => HN.neg _ i k d (hρ _)) (hq := fun k => HN.prod i k)
    (fr := fun d => F.rel i d) (fn := fun k d => F.tab _ _ d (tail_ne i)),
    rawF_at H0, H2.bias]
  rfl

/-- The loss row gains each lane's example's terms. -/
theorem lossRow_at (F : IsFinite D) (H0 : HasBatch D e x0) (H2 : HasTab D x2) (H3 : HasRel D x3) (HN : HasNeg D n q) (a : FVec Ideal S1x8192 .f32) (l : Fin 8192) :
    lossRow x0 x2 x3 n q a (ix2 0 l) = a (ix2 0 l) + D.terms (e l) := by
  unfold lossRow
  rw [lossTail_lane, lossMid_lane, lossHead_lane]
  have R0 : posL (lane (raw0 x0 x2) l) (vec x3 0) (lane (raw1 x0 x2) l) (raw1 x0 x2 (ix2 100 l))
      + negL (fun k x => n (ix2 ⟨k.val, by omega⟩ x)) (lane (raw0 x0 x2) l) (prod q 0) (raw1 x0 x2 (ix2 100 l)) = D.T 0 (e l) :=
    rel_term F H0 H2 H3 HN 0 l (fun k => ⟨k.val, by omega⟩) fun k => by simp; try omega
  have R1 : posL (lane (raw0 x0 x2) l) (vec x3 1) (lane (raw2 x0 x2) l) (raw2 x0 x2 (ix2 100 l))
      + negL (fun k x => n (ix2 ⟨8 + k.val, by omega⟩ x)) (lane (raw0 x0 x2) l) (prod q 1) (raw2 x0 x2 (ix2 100 l)) = D.T 1 (e l) :=
    rel_term F H0 H2 H3 HN 1 l (fun k => ⟨8 + k.val, by omega⟩) fun k => by simp; try omega
  have R2 : posL (lane (raw1 x0 x2) l) (vec x3 2) (lane (raw2 x0 x2) l) (raw2 x0 x2 (ix2 101 l))
      + negL (fun k x => n (ix2 ⟨16 + k.val, by omega⟩ x)) (lane (raw1 x0 x2) l) (prod q 2) (raw2 x0 x2 (ix2 101 l)) = D.T 2 (e l) :=
    rel_term F H0 H2 H3 HN 2 l (fun k => ⟨16 + k.val, by omega⟩) fun k => by simp; try omega
  have R3 : posL (lane (raw1 x0 x2) l) (vec x3 3) (lane (raw3 x0 x2) l) (raw3 x0 x2 (ix2 100 l))
      + negL (fun k x => n (ix2 ⟨16 + (8 + k.val), by omega⟩ x)) (lane (raw1 x0 x2) l) (prod q 3) (raw3 x0 x2 (ix2 100 l)) = D.T 3 (e l) :=
    rel_term F H0 H2 H3 HN 3 l (fun k => ⟨16 + (8 + k.val), by omega⟩) fun k => by simp; try omega
  have R4 : posL (lane (raw1 x0 x2) l) (vec x3 4) (lane (raw4 x0 x2) l) (raw4 x0 x2 (ix2 100 l))
      + negL (fun k x => n (ix2 ⟨16 + (16 + k.val), by omega⟩ x)) (lane (raw1 x0 x2) l) (prod q 4) (raw4 x0 x2 (ix2 100 l)) = D.T 4 (e l) :=
    rel_term F H0 H2 H3 HN 4 l (fun k => ⟨16 + (16 + k.val), by omega⟩) fun k => by simp; try omega
  have R5 : posL (lane (raw1 x0 x2) l) (vec x3 5) (lane (raw5 x0 x2) l) (raw5 x0 x2 (ix2 100 l))
      + negL (fun k x => n (ix2 ⟨16 + (24 + k.val), by omega⟩ x)) (lane (raw1 x0 x2) l) (prod q 5) (raw5 x0 x2 (ix2 100 l)) = D.T 5 (e l) :=
    rel_term F H0 H2 H3 HN 5 l (fun k => ⟨16 + (24 + k.val), by omega⟩) fun k => by simp; try omega
  have R6 : posL (lane (raw1 x0 x2) l) (vec x3 6) (lane (raw6 x0 x2) l) (raw6 x0 x2 (ix2 101 l))
      + negL (fun k x => n (ix2 ⟨16 + (32 + k.val), by omega⟩ x)) (lane (raw1 x0 x2) l) (prod q 6) (raw6 x0 x2 (ix2 101 l)) = D.T 6 (e l) :=
    rel_term F H0 H2 H3 HN 6 l (fun k => ⟨16 + (32 + k.val), by omega⟩) fun k => by simp; try omega
  have R7 : posL (lane (raw1 x0 x2) l) (vec x3 7) (lane (raw7 x0 x2) l) (raw7 x0 x2 (ix2 102 l))
      + negL (fun k x => n (ix2 ⟨16 + (40 + k.val), by omega⟩ x)) (lane (raw1 x0 x2) l) (prod q 7) (raw7 x0 x2 (ix2 102 l)) = D.T 7 (e l) :=
    rel_term F H0 H2 H3 HN 7 l (fun k => ⟨16 + (40 + k.val), by omega⟩) fun k => by simp; try omega
  unfold Data.terms
  rw [← R0, ← R1, ← R2, ← R3, ← R4, ← R5, ← R6, ← R7]
  simp only [add_assoc]

/-- A column's squared norm for an example. -/
abbrev sq (D : Data) (g : Fin 8) (b : Fin 16384) : EReal := ∑ d, D.row g b d * D.row g b d

/-- The rows after a point. -/
theorem rows_loss (F : IsFinite D) (H0 : HasBatch D e x0) (H2 : HasTab D x2) (H3 : HasRel D x3) (HN : HasNeg D n q) (a : Fin 9 → Vec Ideal S1x8192 .f32) (l : Fin 8192) :
    rowsAfter x0 x2 x3 n q a 0 (ix2 0 l) = a 0 (ix2 0 l) + D.terms (e l) := lossRow_at F H0 H2 H3 HN (a 0) l

theorem rows_norm (H0 : HasBatch D e x0) (H2 : HasTab D x2) (a : Fin 9 → Vec Ideal S1x8192 .f32) (g : Fin 8) (l : Fin 8192) :
    rowsAfter x0 x2 x3 n q a g.succ (ix2 0 l) = a g.succ (ix2 0 l) + sq D g (e l) := by
  have h : ∀ g, rawF x0 x2 g (ix2 103 l) = sq D g (e l) := fun g => (rawF_at H0 g 103 l).trans (H2.norm _ _)
  rw [← h g]
  match g with
  | 0 => exact norms0_at (raw0 x0 x2) (a 1) l
  | 1 => exact norms1_at (raw1 x0 x2) (a 2) l
  | 2 => exact norms2_at (raw2 x0 x2) (a 3) l
  | 3 => exact norms3_at (raw3 x0 x2) (a 4) l
  | 4 => exact norms4_at (raw4 x0 x2) (a 5) l
  | 5 => exact norms5_at (raw5 x0 x2) (a 6) l
  | 6 => exact norms6_at (raw6 x0 x2) (a 7) l
  | 7 => exact norms7_at (raw7 x0 x2) (a 8) l

end

/-! ## The first point's negatives -/

section
variable {D : Data} {x1 : Vec Ideal S8x8 .i32} {x2 : Vec Ideal S6x1024x128 .bf16} {x4 : Vec Ideal S64x128 .f32}

/-- The staged negatives hold the data, -/
def HasIdx (D : Data) (x1 : Vec Ideal S8x8 .i32) : Prop := ∀ i j, x1 (ix2 j i) = BitVec.ofNat 32 (kap D i j).val
/-- and the repeated relation vectors do. -/
def HasRep (D : Data) (x4 : Vec Ideal S64x128 .f32) : Prop :=
  ∀ (i j : Fin 8) (d : Fin 100), x4 (ix2 ⟨8 * i.val + j.val, by omega⟩ (upd d)) = D.rel i d

theorem kap_up5 (D : Data) (i : Fin 8) (k : Fin 5) : kap D i (up5 k) = up (D.ν i k) := dif_pos k.isLt

theorem keepIf_pos {j : Fin 8} {d : Fin 128} (hj : j.val < 5) (hd : d.val < 100) (a : EReal) : keepIf j d a = a := if_pos ⟨hj, hd⟩
theorem keepIf_neg_left {j : Fin 8} {d : Fin 128} (hj : 5 ≤ j.val) (a : EReal) : keepIf j d a = 0 := if_neg fun h => by omega
theorem keepIf_neg_right {j : Fin 8} {d : Fin 128} (hd : 100 ≤ d.val) (a : EReal) : keepIf j d a = 0 := if_neg fun h => by omega

theorem negsF_at (H1 : HasIdx D x1) (i j : Fin 8) (d : Fin 128) :
    firstNegs x1 x2 i (ix2 j d) = keepIf j d (x2 (ix3 (slot (tl i)) (kap D i j) d)) := by
  match i with
  | 0 => exact negs0_at x1 x2 (kap D 0) (H1 0) j d
  | 1 => exact negs1_at x1 x2 (kap D 1) (H1 1) j d
  | 2 => exact negs2_at x1 x2 (kap D 2) (H1 2) j d
  | 3 => exact negs3_at x1 x2 (kap D 3) (H1 3) j d
  | 4 => exact negs4_at x1 x2 (kap D 4) (H1 4) j d
  | 5 => exact negs5_at x1 x2 (kap D 5) (H1 5) j d
  | 6 => exact negs6_at x1 x2 (kap D 6) (H1 6) j d
  | 7 => exact negs7_at x1 x2 (kap D 7) (H1 7) j d

theorem prodsF_at (H1 : HasIdx D x1) (i j : Fin 8) :
    firstProds x1 x2 x4 i (ix2 j 0) = ∑ d : Fin 128, keepIf j d (x2 (ix3 (slot (tl i)) (kap D i j) d) * x4 (ix2 ⟨8 * i.val + j.val, by omega⟩ d)) := by
  match i with
  | 0 => exact prods0_at x1 x2 x4 (kap D 0) (H1 0) j
  | 1 => exact prods1_at x1 x2 x4 (kap D 1) (H1 1) j
  | 2 => exact prods2_at x1 x2 x4 (kap D 2) (H1 2) j
  | 3 => exact prods3_at x1 x2 x4 (kap D 3) (H1 3) j
  | 4 => exact prods4_at x1 x2 x4 (kap D 4) (H1 4) j
  | 5 => exact prods5_at x1 x2 x4 (kap D 5) (H1 5) j
  | 6 => exact prods6_at x1 x2 x4 (kap D 6) (H1 6) j
  | 7 => exact prods7_at x1 x2 x4 (kap D 7) (H1 7) j

theorem squaresF_at (H1 : HasIdx D x1) (i : Fin 8) :
    firstSquares x1 x2 i (ix2 0 0) = ∑ j : Fin 8, ∑ d : Fin 128, keepIf j d (x2 (ix3 (slot (tl i)) (kap D i j) d) * x2 (ix3 (slot (tl i)) (kap D i j) d)) := by
  match i with
  | 0 => exact squares0_at x1 x2 (kap D 0) (H1 0)
  | 1 => exact squares1_at x1 x2 (kap D 1) (H1 1)
  | 2 => exact squares2_at x1 x2 (kap D 2) (H1 2)
  | 3 => exact squares3_at x1 x2 (kap D 3) (H1 3)
  | 4 => exact squares4_at x1 x2 (kap D 4) (H1 4)
  | 5 => exact squares5_at x1 x2 (kap D 5) (H1 5)
  | 6 => exact squares6_at x1 x2 (kap D 6) (H1 6)
  | 7 => exact squares7_at x1 x2 (kap D 7) (H1 7)

/-- The kept negative rows and their products hold the data. -/
theorem hasNeg (H1 : HasIdx D x1) (H2 : HasTab D x2) (H4 : HasRep D x4) {n : Vec Ideal S64x128 .bf16}
    (hn : ∀ (r : Fin 64) (i j : Fin 8) (d : Fin 128), r.val = 8 * i.val + j.val → n (ix2 r d) = firstNegs x1 x2 i (ix2 j d)) :
    HasNeg D n (firstProds x1 x2 x4) where
  neg r i k d h := by
    rw [hn r i (up5 k) (upd d) h, negsF_at H1, keepIf_pos k.isLt d.isLt, kap_up5, H2.tab]
    rfl
  prod i k := by
    rw [prodsF_at H1]
    refine sum_pad128 _ _ (fun d => ?_) fun d hd => keepIf_neg_right hd _
    rw [keepIf_pos k.isLt d.isLt, kap_up5, H4 i (up5 k) d]
    exact congrArg (· * D.rel i d) (H2.tab _ _ d)

/-- The negatives' square sums. -/
theorem squares_at (H1 : HasIdx D x1) (H2 : HasTab D x2) (i : Fin 8) :
    firstSquares x1 x2 i (ix2 0 0) = ∑ k : Fin 5, ∑ d : Fin 100, D.neg i k d * D.neg i k d := by
  rw [squaresF_at H1]
  refine sum_pad8 _ _ (fun k => ?_) fun j hj => Finset.sum_eq_zero fun d _ => keepIf_neg_left hj _
  refine sum_pad128 _ _ (fun d => ?_) fun d hd => keepIf_neg_right hd _
  rw [keepIf_pos k.isLt d.isLt, kap_up5, H2.tab]
  rfl

end

/-! ## What the last point writes -/

theorem finish_at (r : Fin 9 → Vec Ideal S1x8192 .f32) (s : Fin 8 → Vec Ideal S1x1 .f32) :
    finish r s (ix2 0 0) = (∑ x : Fin 8192, r 0 (ix2 0 x)) * Ideal.ofBits .f32 0x38800000#32
      + Ideal.ofBits .f32 0x3A83126F#32 * (Ideal.ofBits .f32 0x40000000#32 * Ideal.sqrt (∑ x : Fin 8192, r 1 (ix2 0 x))
        + Ideal.ofBits .f32 0x40E00000#32 * Ideal.sqrt (∑ x : Fin 8192, r 2 (ix2 0 x)) + Ideal.ofBits .f32 0x40000000#32 * Ideal.sqrt (∑ x : Fin 8192, r 3 (ix2 0 x))
        + Ideal.sqrt (∑ x : Fin 8192, r 4 (ix2 0 x)) + Ideal.sqrt (∑ x : Fin 8192, r 5 (ix2 0 x)) + Ideal.sqrt (∑ x : Fin 8192, r 6 (ix2 0 x))
        + Ideal.sqrt (∑ x : Fin 8192, r 7 (ix2 0 x)) + Ideal.sqrt (∑ x : Fin 8192, r 8 (ix2 0 x))
        + Ideal.sqrt (s 0 (ix2 0 0)) + Ideal.sqrt (s 1 (ix2 0 0)) + Ideal.sqrt (s 2 (ix2 0 0)) + Ideal.sqrt (s 3 (ix2 0 0))
        + Ideal.sqrt (s 4 (ix2 0 0)) + Ideal.sqrt (s 5 (ix2 0 0)) + Ideal.sqrt (s 6 (ix2 0 0)) + Ideal.sqrt (s 7 (ix2 0 0))) := by
  pointwise [finish, k0_pay2, k0_pay40, k0_pay39]

theorem zeros_at (i : Fin 9) (l : Fin 8192) : accRow (F := Ideal) (k0_pay3 (F := Ideal)) i (ix2 0 l) = (0 : EReal) := by
  match i with
  | 0 => pointwise [accRow, k0_pay3]
  | 1 => pointwise [accRow, k0_pay3]
  | 2 => pointwise [accRow, k0_pay3]
  | 3 => pointwise [accRow, k0_pay3]
  | 4 => pointwise [accRow, k0_pay3]
  | 5 => pointwise [accRow, k0_pay3]
  | 6 => pointwise [accRow, k0_pay3]
  | 7 => pointwise [accRow, k0_pay3]
  | 8 => pointwise [accRow, k0_pay3]

/-- The two points' loss. -/
theorem finish_eq {D : Data} (F : IsFinite D) {x0 x0' : Vec Ideal S8x8192 .i32} {x2 x2' : Vec Ideal S6x1024x128 .bf16} {x3 x3' : Vec Ideal S128x8 .f32}
    {n : Vec Ideal S64x128 .bf16} {q : Fin 8 → Vec Ideal S8x1 .f32} {s : Fin 8 → Vec Ideal S1x1 .f32}
    (H0 : HasBatch D (fun l => ⟨l.val, by omega⟩) x0) (H0' : HasBatch D (fun l => ⟨8192 + l.val, by omega⟩) x0')
    (H2 : HasTab D x2) (H2' : HasTab D x2') (H3 : HasRel D x3) (H3' : HasRel D x3') (HN : HasNeg D n q)
    (hs : ∀ i, s i (ix2 0 0) = ∑ k : Fin 5, ∑ d : Fin 100, D.neg i k d * D.neg i k d) :
    finish (rowsAfter x0' x2' x3' n q (rowsAfter x0 x2 x3 n q (accRow (k0_pay3 (F := Ideal))))) s (ix2 0 0) = D.loss := by
  have h0 : ∀ l, rowsAfter x0' x2' x3' n q (rowsAfter x0 x2 x3 n q (accRow (k0_pay3 (F := Ideal)))) 0 (ix2 0 l)
      = 0 + D.terms ⟨l.val, by omega⟩ + D.terms ⟨8192 + l.val, by omega⟩ := fun l => by
    rw [rows_loss F H0' H2' H3' HN, rows_loss F H0 H2 H3 HN, zeros_at]
  have hg : ∀ (g : Fin 8) (r : Fin 9), r = g.succ → Ideal.sqrt (∑ l, rowsAfter x0' x2' x3' n q (rowsAfter x0 x2 x3 n q (accRow (k0_pay3 (F := Ideal)))) r (ix2 0 l)) = D.G g := fun g r hr => by
    subst hr
    refine (congrArg Ideal.sqrt (Finset.sum_congr rfl fun l _ => ?_)).trans (congrArg Ideal.sqrt (sum_halves (sq D g)))
    rw [rows_norm H0' H2', rows_norm H0 H2, zeros_at]
  have hm : ∀ i, Ideal.sqrt (s i (ix2 0 0)) = D.M i := fun i => by rw [hs]; rfl
  rw [finish_at, ← D.loss_eq]
  simp only [h0, hm]
  rw [hg 0 1 rfl, hg 1 2 rfl, hg 2 3 rfl, hg 3 4 rfl, hg 4 5 rfl, hg 5 6 rfl, hg 6 7 rfl, hg 7 8 rfl]

end Cert.KernelIdeal.Hand

end
-- ==== Proof.KernelIdeal.Staged.lean ====
/- What the operations before the launch stage, read at an index: the batch and the negatives transposed, the six tables with their
   biases and squared norms, and the relation vectors. -/
module

public import proofs.«01_k».proof.Proof.KernelIdeal.Setup
public import Idealize.ShloMosaic.Lib.Pointwise
public import Idealize.ShloMosaic.Lib.StableHlo.ReadAt

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-! The arguments. -/

abbrev a0 : Vec Ideal S16384x8 .i32 := m ((c.tc : Thread nD τ).loc main_arg0)
abbrev a1 : Vec Ideal S8x5 .i32 := m ((c.tc : Thread nD τ).loc main_arg1)
abbrev a2 : FVec Ideal S100001x100 .f32 := m ((c.tc : Thread nD τ).loc main_arg2)
abbrev a3 : FVec Ideal S100001x100 .f32 := m ((c.tc : Thread nD τ).loc main_arg3)
abbrev a4 : FVec Ideal S100001x100 .f32 := m ((c.tc : Thread nD τ).loc main_arg4)
abbrev a5 : FVec Ideal S1001x100 .f32 := m ((c.tc : Thread nD τ).loc main_arg5)
abbrev a6 : FVec Ideal S1001x100 .f32 := m ((c.tc : Thread nD τ).loc main_arg6)
abbrev a7 : FVec Ideal S100001x100 .f32 := m ((c.tc : Thread nD τ).loc main_arg7)
abbrev a8 : FVec Ideal S8x100 .f32 := m ((c.tc : Thread nD τ).loc main_arg8)
abbrev a9 : FVec Ideal S100001x1 .f32 := m ((c.tc : Thread nD τ).loc main_arg9)
abbrev a10 : FVec Ideal S100001x1 .f32 := m ((c.tc : Thread nD τ).loc main_arg10)
abbrev a11 : FVec Ideal S100001x1 .f32 := m ((c.tc : Thread nD τ).loc main_arg11)
abbrev a12 : FVec Ideal S1001x1 .f32 := m ((c.tc : Thread nD τ).loc main_arg12)
abbrev a13 : FVec Ideal S1001x1 .f32 := m ((c.tc : Thread nD τ).loc main_arg13)
abbrev a14 : FVec Ideal S100001x1 .f32 := m ((c.tc : Thread nD τ).loc main_arg14)
abbrev a15 : FVec Ideal S100001x1 .f32 := m ((c.tc : Thread nD τ).loc main_arg15)
abbrev a16 : FVec Ideal S100001x1 .f32 := m ((c.tc : Thread nD τ).loc main_arg16)

/-! What is staged. -/

theorem bt_at (a : Fin 8) (b : Fin 16384) : V m c main_v0 (ix2 a b) = a0 m c (ix2 b a) := by
  unfold V
  after_reads_at

theorem ni_at (a : Fin 5) (b : Fin 8) : V m c main_v2 (ix2 ⟨a.val, by omega⟩ b) = a1 m c (ix2 b a) := by
  unfold V
  after_reads_at

theorem ni_pad (a : Fin 8) (b : Fin 8) (h : 5 ≤ a.val) : (V m c main_v2 : Vec Ideal S8x8 .i32) (ix2 a b) = 0#32 := by
  unfold V
  after_reads_at
  rw [dif_neg (by omega)]
  rfl

theorem rv_at (d : Fin 100) (i : Fin 8) : V m c main_v62 (ix2 ⟨d.val, by omega⟩ i) = a8 m c (ix2 i d) := by
  unfold V
  after_reads_at

theorem rv_pad (d : Fin 128) (i : Fin 8) (h : 100 ≤ d.val) : (V m c main_v62 : FVec Ideal S128x8 .f32) (ix2 d i) = (0 : EReal) := by
  unfold V
  after_reads_at
  rw [dif_neg (by omega)]
  show (((0 : ℤ) : ℝ) : EReal) = 0
  simp

theorem rvrep_at (i : Fin 8) (k : Fin 8) (d : Fin 100) : V m c main_v65 (ix2 ⟨8 * i.val + k.val, by omega⟩ ⟨d.val, by omega⟩) = a8 m c (ix2 i d) := by
  unfold V
  after_reads_at

theorem tab0_at (k : Fin 1000) (d : Fin 100) : V m c main_v60 (ix3 0 ⟨k.val, by omega⟩ ⟨d.val, by omega⟩) = a2 m c (ix2 ⟨k.val, by omega⟩ d) := by
  unfold V
  repeat after_reads_at
  exact dif_pos (by omega)

theorem norm0_at (k : Fin 1000) : (V m c main_v60 : FVec Ideal S6x1024x128 .bf16) (ix3 0 ⟨k.val, by omega⟩ 103)
    = ∑ d : Fin 100, a2 m c (ix2 ⟨k.val, by omega⟩ d) * a2 m c (ix2 ⟨k.val, by omega⟩ d) := by
  unfold V
  repeat after_reads_at

theorem tab1_at (k : Fin 1000) (d : Fin 100) : V m c main_v60 (ix3 1 ⟨k.val, by omega⟩ ⟨d.val, by omega⟩) = a3 m c (ix2 ⟨k.val, by omega⟩ d) := by
  unfold V
  repeat after_reads_at
  exact dif_pos (by omega)

theorem norm1_at (k : Fin 1000) : (V m c main_v60 : FVec Ideal S6x1024x128 .bf16) (ix3 1 ⟨k.val, by omega⟩ 103)
    = ∑ d : Fin 100, a3 m c (ix2 ⟨k.val, by omega⟩ d) * a3 m c (ix2 ⟨k.val, by omega⟩ d) := by
  unfold V
  repeat after_reads_at

theorem bias9_at (k : Fin 1000) : V m c main_v60 (ix3 1 ⟨k.val, by omega⟩ 100) = a9 m c (ix2 ⟨k.val, by omega⟩ 0) := by
  unfold V
  repeat after_reads_at

theorem tab2_at (k : Fin 1000) (d : Fin 100) : V m c main_v60 (ix3 2 ⟨k.val, by omega⟩ ⟨d.val, by omega⟩) = a4 m c (ix2 ⟨k.val, by omega⟩ d) := by
  unfold V
  repeat after_reads_at
  exact dif_pos (by omega)

theorem norm2_at (k : Fin 1000) : (V m c main_v60 : FVec Ideal S6x1024x128 .bf16) (ix3 2 ⟨k.val, by omega⟩ 103)
    = ∑ d : Fin 100, a4 m c (ix2 ⟨k.val, by omega⟩ d) * a4 m c (ix2 ⟨k.val, by omega⟩ d) := by
  unfold V
  repeat after_reads_at

theorem bias10_at (k : Fin 1000) : V m c main_v60 (ix3 2 ⟨k.val, by omega⟩ 100) = a10 m c (ix2 ⟨k.val, by omega⟩ 0) := by
  unfold V
  repeat after_reads_at

theorem bias11_at (k : Fin 1000) : V m c main_v60 (ix3 2 ⟨k.val, by omega⟩ 101) = a11 m c (ix2 ⟨k.val, by omega⟩ 0) := by
  unfold V
  repeat after_reads_at

theorem tab3_at (k : Fin 1000) (d : Fin 100) : V m c main_v60 (ix3 3 ⟨k.val, by omega⟩ ⟨d.val, by omega⟩) = a5 m c (ix2 ⟨k.val, by omega⟩ d) := by
  unfold V
  repeat after_reads_at
  exact dif_pos (by omega)

theorem norm3_at (k : Fin 1000) : (V m c main_v60 : FVec Ideal S6x1024x128 .bf16) (ix3 3 ⟨k.val, by omega⟩ 103)
    = ∑ d : Fin 100, a5 m c (ix2 ⟨k.val, by omega⟩ d) * a5 m c (ix2 ⟨k.val, by omega⟩ d) := by
  unfold V
  repeat after_reads_at

theorem bias12_at (k : Fin 1000) : V m c main_v60 (ix3 3 ⟨k.val, by omega⟩ 100) = a12 m c (ix2 ⟨k.val, by omega⟩ 0) := by
  unfold V
  repeat after_reads_at

theorem tab4_at (k : Fin 1000) (d : Fin 100) : V m c main_v60 (ix3 4 ⟨k.val, by omega⟩ ⟨d.val, by omega⟩) = a6 m c (ix2 ⟨k.val, by omega⟩ d) := by
  unfold V
  repeat after_reads_at
  exact dif_pos (by omega)

theorem norm4_at (k : Fin 1000) : (V m c main_v60 : FVec Ideal S6x1024x128 .bf16) (ix3 4 ⟨k.val, by omega⟩ 103)
    = ∑ d : Fin 100, a6 m c (ix2 ⟨k.val, by omega⟩ d) * a6 m c (ix2 ⟨k.val, by omega⟩ d) := by
  unfold V
  repeat after_reads_at

theorem bias13_at (k : Fin 1000) : V m c main_v60 (ix3 4 ⟨k.val, by omega⟩ 100) = a13 m c (ix2 ⟨k.val, by omega⟩ 0) := by
  unfold V
  repeat after_reads_at

theorem tab5_at (k : Fin 1000) (d : Fin 100) : V m c main_v60 (ix3 5 ⟨k.val, by omega⟩ ⟨d.val, by omega⟩) = a7 m c (ix2 ⟨k.val, by omega⟩ d) := by
  unfold V
  repeat after_reads_at
  exact dif_pos (by omega)

theorem norm5_at (k : Fin 1000) : (V m c main_v60 : FVec Ideal S6x1024x128 .bf16) (ix3 5 ⟨k.val, by omega⟩ 103)
    = ∑ d : Fin 100, a7 m c (ix2 ⟨k.val, by omega⟩ d) * a7 m c (ix2 ⟨k.val, by omega⟩ d) := by
  unfold V
  repeat after_reads_at

theorem bias14_at (k : Fin 1000) : V m c main_v60 (ix3 5 ⟨k.val, by omega⟩ 100) = a14 m c (ix2 ⟨k.val, by omega⟩ 0) := by
  unfold V
  repeat after_reads_at

theorem bias15_at (k : Fin 1000) : V m c main_v60 (ix3 5 ⟨k.val, by omega⟩ 101) = a15 m c (ix2 ⟨k.val, by omega⟩ 0) := by
  unfold V
  repeat after_reads_at

theorem bias16_at (k : Fin 1000) : V m c main_v60 (ix3 5 ⟨k.val, by omega⟩ 102) = a16 m c (ix2 ⟨k.val, by omega⟩ 0) := by
  unfold V
  repeat after_reads_at

end Cert.KernelIdeal.Hand

end
-- ==== Proof.KernelIdeal.Blocks.lean ====
/- The data that the arguments hold, and that the blocks staged at the two points hold them. -/
module

public import proofs.«01_k».proof.Proof.KernelIdeal.BlockSum
public import proofs.«01_k».proof.Proof.KernelIdeal.Staged
public import proofs.«01_k».proof.Proof.KernelIdeal.Frame
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Tactic Cert.Model Cert.Model.Data

variable (m : (ℓ : Loc nD τ sig) → Buf (Elt Ideal) ℓ) (c : Dev nD)

/-- What the arguments hold. -/
def held : Data where
  ι g b := ⟨(a0 m c (ix2 b g)).toNat % 1000, Nat.mod_lt _ (by decide)⟩
  ν i k := ⟨(a1 m c (ix2 i k)).toNat % 1000, Nat.mod_lt _ (by decide)⟩
  tab := ![fun k d => a2 m c (ix2 ⟨k.val, by omega⟩ d), fun k d => a3 m c (ix2 ⟨k.val, by omega⟩ d), fun k d => a4 m c (ix2 ⟨k.val, by omega⟩ d),
    fun k d => a5 m c (ix2 ⟨k.val, by omega⟩ d), fun k d => a6 m c (ix2 ⟨k.val, by omega⟩ d), fun k d => a7 m c (ix2 ⟨k.val, by omega⟩ d)]
  rel i d := a8 m c (ix2 i d)
  bias := ![fun k => a9 m c (ix2 ⟨k.val, by omega⟩ 0), fun k => a10 m c (ix2 ⟨k.val, by omega⟩ 0), fun k => a11 m c (ix2 ⟨k.val, by omega⟩ 0),
    fun k => a12 m c (ix2 ⟨k.val, by omega⟩ 0), fun k => a13 m c (ix2 ⟨k.val, by omega⟩ 0), fun k => a14 m c (ix2 ⟨k.val, by omega⟩ 0),
    fun k => a15 m c (ix2 ⟨k.val, by omega⟩ 0), fun k => a16 m c (ix2 ⟨k.val, by omega⟩ 0)]

/-- The indices are below a thousand. -/
structure Below : Prop where
  batch : ∀ b g, a0 m c (ix2 b g) = BitVec.ofNat 32 ((a0 m c (ix2 b g)).toNat % 1000)
  negs : ∀ i k, a1 m c (ix2 i k) = BitVec.ofNat 32 ((a1 m c (ix2 i k)).toNat % 1000)

/-! The staged blocks: the batch's by columns, the others whole. -/

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

theorem block0_first (g : Fin 8) (l : Fin 8192) : iblk m c 0 p0 (ix2 g l) = V m c main_v0 (ix2 g ⟨l.val, by omega⟩) := by
  blk_simp [iblk]
  refine congrArg (V m c main_v0) ?_
  blk_ext [idx0 p0]

theorem block0_last (g : Fin 8) (l : Fin 8192) : iblk m c 0 p1 (ix2 g l) = V m c main_v0 (ix2 g ⟨8192 + l.val, by omega⟩) := by
  blk_simp [iblk]
  refine congrArg (V m c main_v0) ?_
  blk_ext [idx0 p1]

theorem block1 (t : Fin cfg0.N) (a : Fin 8) (b : Fin 8) : iblk m c 1 t (ix2 a b) = V m c main_v2 (ix2 a b) := by
  blk_simp [iblk]
  refine congrArg (V m c main_v2) ?_
  blk_ext [idx1 t]

theorem block2 (t : Fin cfg0.N) (s : Fin 6) (a : Fin 1024) (b : Fin 128) : iblk m c 2 t (ix3 s a b) = V m c main_v60 (ix3 s a b) := by
  blk_simp [iblk]
  refine congrArg (V m c main_v60) ?_
  blk_ext [idx2 t]

theorem block3 (t : Fin cfg0.N) (a : Fin 128) (b : Fin 8) : iblk m c 3 t (ix2 a b) = V m c main_v62 (ix2 a b) := by
  blk_simp [iblk]
  refine congrArg (V m c main_v62) ?_
  blk_ext [idx3 t]

theorem block4 (t : Fin cfg0.N) (a : Fin 64) (b : Fin 128) : iblk m c 4 t (ix2 a b) = V m c main_v65 (ix2 a b) := by
  blk_simp [iblk]
  refine congrArg (V m c main_v65) ?_
  blk_ext [idx4 t]

theorem hasTab (t : Fin cfg0.N) : HasTab (held m c) (iblk m c 2 t) where
  tab s k d := by
    rw [block2]
    match s with
    | 0 => exact tab0_at m c k d
    | 1 => exact tab1_at m c k d
    | 2 => exact tab2_at m c k d
    | 3 => exact tab3_at m c k d
    | 4 => exact tab4_at m c k d
    | 5 => exact tab5_at m c k d
  bias i k := by
    rw [block2]
    match i with
    | 0 => exact bias9_at m c k
    | 1 => exact bias10_at m c k
    | 2 => exact bias11_at m c k
    | 3 => exact bias12_at m c k
    | 4 => exact bias13_at m c k
    | 5 => exact bias14_at m c k
    | 6 => exact bias15_at m c k
    | 7 => exact bias16_at m c k
  norm s k := by
    rw [block2]
    match s with
    | 0 => exact norm0_at m c k
    | 1 => exact norm1_at m c k
    | 2 => exact norm2_at m c k
    | 3 => exact norm3_at m c k
    | 4 => exact norm4_at m c k
    | 5 => exact norm5_at m c k

theorem hasRel (t : Fin cfg0.N) : HasRel (held m c) (iblk m c 3 t) where
  rel d i := by rw [block3]; exact rv_at m c d i
  pad d i h := by rw [block3]; exact rv_pad m c d i h

theorem hasRep (t : Fin cfg0.N) : HasRep (held m c) (iblk m c 4 t) := fun i j d => by
  rw [block4]; exact rvrep_at m c i j d

section
variable {m c} (B : Below m c)
include B

theorem hasIdx (t : Fin cfg0.N) : HasIdx (held m c) (iblk m c 1 t) := fun i j => by
  rw [block1]
  unfold kap
  split
  · rename_i h
    exact (ni_at m c ⟨j.val, h⟩ i).trans (B.negs i ⟨j.val, h⟩)
  · exact ni_pad m c j i (by omega)

theorem hasBatch_first : HasBatch (held m c) (fun l => ⟨l.val, by omega⟩) (iblk m c 0 p0) := fun g l =>
  (block0_first m c g l).trans ((bt_at m c g _).trans (B.batch _ g))

theorem hasBatch_last : HasBatch (held m c) (fun l => ⟨8192 + l.val, by omega⟩) (iblk m c 0 p1) := fun g l =>
  (block0_last m c g l).trans ((bt_at m c g _).trans (B.batch _ g))

end

end Cert.KernelIdeal.Hand

end
-- ==== Proof.KernelIdeal.RowsFirst.lean ====
/- What one grid point adds to the accumulator and what the last point writes, as functions of the input blocks and of what
   the first point stored. -/
module

public import proofs.«01_k».proof.Proof.KernelIdeal.Rows
public import proofs.«01_k».proof.Proof.KernelIdeal.RunLast
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem cover_negCells (r : Fin 8 → Vec F S8x128 .bf16) (y : S64x128.Idx) : ∃ p ∈ negCells r, y ∈ p.1.set :=
  View.cover_of_tiledL (negCells r) S8x128.size (by sl_kernel_rfl) y

set_option maxHeartbeats 3200000 in
/-- What the first point leaves in the accumulator. -/
theorem runFirst_accum (c : Dev nD) (i : grid0.Coords) (arg1 : Memref sig .tc .vmem S8x8192 .i32) (harg1 : arg1.IsWhole) (arg2 : Memref sig .tc .vmem S8x8 .i32) (harg2 : arg2.IsWhole)
      (arg3 : Memref sig .tc .vmem S6x1024x128 .bf16) (harg3 : arg3.IsWhole) (arg4 : Memref sig .tc .vmem S128x8 .f32) (harg4 : arg4.IsWhole)
      (arg5 : Memref sig .tc .vmem S64x128 .f32) (harg5 : arg5.IsWhole) (arg6 : Memref sig .tc .vmem S1x1 .f32) (harg6 : arg6.IsWhole)
      (arg7 : Memref sig .tc .vmem S64x128 .bf16) (harg7 : arg7.IsWhole) (arg8 : Memref sig .tc .vmem S64x128 .f32) (harg8 : arg8.IsWhole)
      (arg9 : Memref sig .tc .vmem S8x128 .f32) (harg9 : arg9.IsWhole) (arg10 : Memref sig .tc .vmem S9x8192 .f32) (harg10 : arg10.IsWhole)
    (hc0 : first i) (hc1 : ¬last i) (x0 : Vec F S8x8192 .i32) (x1 : Vec F S8x8 .i32) (x2 : Vec F S6x1024x128 .bf16) (x3 : Vec F S128x8 .f32) (x4 : Vec F S64x128 .f32) :
    (runFirst (F := F) c i arg1 harg1 arg2 harg2 arg3 harg3 arg4 harg4 arg5 harg5 arg6 harg6 arg7 harg7 arg8 harg8 arg9 harg9 arg10 harg10 hc0 hc1 x0 x1 x2 x3 x4).2.2.2.1
      = accCells (rowsAfter x0 x2 x3 (View.canon (negCells (firstNegs x1 x2))) (firstProds x1 x2 x4)
          (accRow (k0_pay3 (F := F))))
        ++ [⟨Rect.unit (s := S9x8192) ![0, 0] S9x8192.size inb_S9x8192_S9x8192_0_0, k0_pay3 (F := F)⟩] := by
  unfold runFirst; dsimp only; sl_unfold_words
  simp only [View.readAt_eq_ld, harg1.read_unread, harg2.read_unread, harg3.read_unread, harg4.read_unread, harg5.read_unread]
  simp only [View.readCov_eq_canon' arg7.view]
  simp (disch := decide) only [↓ View.readCov_skip, ↓ View.readCov_cons_toLoadRect, ↓ View.readCov_fill]
  rfl

end Cert.KernelIdeal.Hand

end
-- ==== Proof.KernelIdeal.RowsLast.lean ====
/- What one grid point adds to the accumulator and what the last point writes, as functions of the input blocks and of what
   the first point stored. -/
module

public import proofs.«01_k».proof.Proof.KernelIdeal.Rows
public import proofs.«01_k».proof.Proof.KernelIdeal.RunLast
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 3200000 in
/-- What the last point writes. -/
theorem runLast_out (c : Dev nD) (i : grid0.Coords) (arg1 : Memref sig .tc .vmem S8x8192 .i32) (harg1 : arg1.IsWhole) (arg2 : Memref sig .tc .vmem S8x8 .i32) (harg2 : arg2.IsWhole)
      (arg3 : Memref sig .tc .vmem S6x1024x128 .bf16) (harg3 : arg3.IsWhole) (arg4 : Memref sig .tc .vmem S128x8 .f32) (harg4 : arg4.IsWhole)
      (arg5 : Memref sig .tc .vmem S64x128 .f32) (harg5 : arg5.IsWhole) (arg6 : Memref sig .tc .vmem S1x1 .f32) (harg6 : arg6.IsWhole)
      (arg7 : Memref sig .tc .vmem S64x128 .bf16) (harg7 : arg7.IsWhole) (arg8 : Memref sig .tc .vmem S64x128 .f32) (harg8 : arg8.IsWhole)
      (arg9 : Memref sig .tc .vmem S8x128 .f32) (harg9 : arg9.IsWhole) (arg10 : Memref sig .tc .vmem S9x8192 .f32) (harg10 : arg10.IsWhole)
    (hc0 : ¬first i) (hc1 : last i) (x0 : Vec F S8x8192 .i32) (x1 : Vec F S8x8 .i32) (x2 : Vec F S6x1024x128 .bf16) (x3 : Vec F S128x8 .f32) (x4 : Vec F S64x128 .f32)
    (n : Vec F S64x128 .bf16) (q : Fin 8 → Vec F S8x1 .f32) (s : Fin 8 → Vec F S1x1 .f32) (a : Vec F S9x8192 .f32) :
    (runLast (F := F) c i arg1 harg1 arg2 harg2 arg3 harg3 arg4 harg4 arg5 harg5 arg6 harg6 arg7 harg7 arg8 harg8 arg9 harg9 arg10 harg10 hc0 hc1 x0 x1 x2 x3 x4 n q s a).1
      = [⟨Rect.unit (s := S1x1) ![0, 0] S1x1.size inb_S1x1_S1x1_0_0, finish (rowsAfter x0 x2 x3 n q (accRow a)) s⟩] := by
  unfold runLast; dsimp only; sl_unfold_words
  simp only [View.readAt_eq_ld, harg1.read_unread, harg2.read_unread, harg3.read_unread, harg4.read_unread, harg5.read_unread, harg7.read_unread, harg10.read_unread]
  simp (disch := decide) only [↓ View.readCov_skip, ↓ View.readCov_cons_toLoadRect, ↓ View.readCov_fill]
  rfl

end Cert.KernelIdeal.Hand

end
-- ==== Proof.KernelIdeal.Value.lean ====
/- What the last point writes is the loss of the data that the arguments hold, and it is what the result is read from. -/
module

public import proofs.«01_k».proof.Proof.KernelIdeal.Blocks
public import proofs.«01_k».proof.Proof.KernelIdeal.RowsFirst
public import proofs.«01_k».proof.Proof.KernelIdeal.RowsLast
public import Idealize.ShloMosaic.Lib.Pipeline.ReadBack
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.ShloMosaic.Tactic Cert.Model Cert.Model.Data
open Idealize.SL Idealize.SL.RA Idealize.SL.Sem
open Idealize.ShloMosaic.Pipeline (Dat)

/-! What is read back of the scratch buffers. -/

theorem negs_read (f : Fin 8 → Vec Ideal S8x128 .bf16) (i j : Fin 8) (d : Fin 128) (off : Fin 2 → ℕ) (inb) (ho : off = ![8 * i.val, 0])
    (hld : View.ld (View.canon (negCells f)) (Rect.unit (s := S64x128) off S8x128.size inb) = f i) :
    View.canon (negCells f) (ix2 ⟨8 * i.val + j.val, by omega⟩ d) = f i (ix2 j d) := by
  subst ho
  rw [← hld]
  refine congrArg (View.canon (negCells f)) ?_
  funext a
  apply Fin.ext
  fin_cases a
  · simp [Rect.unit, Rect.emb, ix2]
  · simp [Rect.unit, Rect.emb, ix2]

theorem ld_canon {S : Shape} {e : EltTy} (v : View sig .tc .vmem S e) (L : List (View.Piece (Elt Ideal) S e)) (r : Rect S) :
    View.ld (View.canon L) r = v.readCov L r.toLoadRect := by
  rw [View.readCov_eq_canon']

theorem negs_at (f : Fin 8 → Vec Ideal S8x128 .bf16) (i j : Fin 8) (d : Fin 128) :
    View.canon (negCells f) (ix2 ⟨8 * i.val + j.val, by omega⟩ d) = f i (ix2 j d) := by
  match i with
  | 0 =>
    refine negs_read f 0 j d _ inb_S64x128_S8x128_0_0 rfl ?_
    rw [ld_canon negs.view]
    simp (disch := decide) only [↓ View.readCov_skip, ↓ View.readCov_cons_toLoadRect]
  | 1 =>
    refine negs_read f 1 j d _ inb_S64x128_S8x128_8_0 rfl ?_
    rw [ld_canon negs.view]
    simp (disch := decide) only [↓ View.readCov_skip, ↓ View.readCov_cons_toLoadRect]
  | 2 =>
    refine negs_read f 2 j d _ inb_S64x128_S8x128_16_0 rfl ?_
    rw [ld_canon negs.view]
    simp (disch := decide) only [↓ View.readCov_skip, ↓ View.readCov_cons_toLoadRect]
  | 3 =>
    refine negs_read f 3 j d _ inb_S64x128_S8x128_24_0 rfl ?_
    rw [ld_canon negs.view]
    simp (disch := decide) only [↓ View.readCov_skip, ↓ View.readCov_cons_toLoadRect]
  | 4 =>
    refine negs_read f 4 j d _ inb_S64x128_S8x128_32_0 rfl ?_
    rw [ld_canon negs.view]
    simp (disch := decide) only [↓ View.readCov_skip, ↓ View.readCov_cons_toLoadRect]
  | 5 =>
    refine negs_read f 5 j d _ inb_S64x128_S8x128_40_0 rfl ?_
    rw [ld_canon negs.view]
    simp (disch := decide) only [↓ View.readCov_skip, ↓ View.readCov_cons_toLoadRect]
  | 6 =>
    refine negs_read f 6 j d _ inb_S64x128_S8x128_48_0 rfl ?_
    rw [ld_canon negs.view]
    simp (disch := decide) only [↓ View.readCov_skip, ↓ View.readCov_cons_toLoadRect]
  | 7 =>
    refine negs_read f 7 j d _ inb_S64x128_S8x128_56_0 rfl ?_
    rw [ld_canon negs.view]
    simp (disch := decide) only [↓ View.readCov_skip, ↓ View.readCov_cons_toLoadRect]

theorem rows_back (r : Fin 9 → Vec Ideal S1x8192 .f32) (L : List (View.Piece (Elt Ideal) S9x8192 .f32)) :
    accRow (View.canon (accCells r ++ L)) = r := by
  unfold accRow accCells
  simp only [ld_canon accum.view, List.cons_append, List.nil_append]
  simp (disch := decide) only [↓ View.readCov_skip, ↓ View.readCov_cons_toLoadRect]
  funext k
  fin_cases k <;> rfl

variable (m : (ℓ : Loc nD τ sig) → Buf (Elt Ideal) ℓ) (c : Dev nD)

theorem negs0_eq : negs0 m c = View.canon (negCells (firstNegs (iblk m c 1 p0) (iblk m c 2 p0))) := by
  unfold negs0 run0
  rw [runFirst_negs]

theorem accum0_rows : accRow (accum0 m c)
    = rowsAfter (iblk m c 0 p0) (iblk m c 2 p0) (iblk m c 3 p0) (negs0 m c) (prods0 m c) (accRow (k0_pay3 (F := Ideal))) := by
  rw [negs0_eq]
  unfold accum0 run0
  rw [runFirst_accum, rows_back]
  rfl

theorem out1_eq : out1 m c (ix2 0 0)
    = finish (rowsAfter (iblk m c 0 p1) (iblk m c 2 p1) (iblk m c 3 p1) (negs0 m c) (prods0 m c)
        (rowsAfter (iblk m c 0 p0) (iblk m c 2 p0) (iblk m c 3 p0) (negs0 m c) (prods0 m c) (accRow (k0_pay3 (F := Ideal))))) (squares0 m c) (ix2 0 0) := by
  unfold out1 run1
  rw [runLast_out, accum0_rows, View.canon_cons_unit_lit _ _ _ (by decide)]

theorem out1_loss (B : Below m c) (F : IsFinite (held m c)) : out1 m c (ix2 0 0) = (held m c).loss := by
  rw [out1_eq]
  refine finish_eq F (hasBatch_first B) (hasBatch_last B) (hasTab m c p0) (hasTab m c p1) (hasRel m c p0) (hasRel m c p1) ?_ fun i => ?_
  · refine hasNeg (hasIdx B p0) (hasTab m c p0) (hasRep m c p0) fun r i j d h => ?_
    rw [negs0_eq]
    exact (congrArg (fun r => View.canon _ (ix2 r d)) (Fin.ext h)).trans (negs_at _ i j d)
  · exact squares_at (hasIdx B p0) (hasTab m c p0) i

/-- The output array ends as the last point leaves it, -/
theorem array_out : (dats m 0 c).arrAt 5 cfg0.N = out1 m c := by
  refine (dats m 0 c).arrAt_eq_of_after_last 5 p1 (by decide +kernel) _ fun j => ?_
  blk_simp
  rw [after_5]

/-- and the result is its element. -/
theorem result_read : (Pipeline.afterTail₀ cfgs (dats m) 0 (V0 m) [hostOps1] c main_v67 : FVec Ideal S_ .f32) ix0 = out1 m c (ix2 0 0) := by
  rw [← array_out]
  unfold Pipeline.afterTail₀
  simp only [hostOps1, List.flatten_cons, List.flatten_nil, List.append_nil]
  after_reads_at
  exact congrFun (Pipeline.withArrays_arr spec0 (by decide +kernel) c (V0 m c) (fun w => (dats m 0 c).arrAt w cfg0.N) 5) (ix2 0 0)

/-- Every fair run ends with the loss as the result and the arguments unchanged. -/
theorem run_loss (ρ : Dev nD → PrngReg) (B : ∀ c, Below m c) (F : ∀ c, IsFinite (held m c)) :
    θ_run defs (onTc (τ := τ) (main (F := Ideal))) ⟨m, fun _ => 0, ρ⟩ (fun r => ∀ c : Dev nD,
      (r.2.mem ((c.tc : Thread nD τ).loc main_v67) : FVec Ideal S_ .f32) = (fun _ => (held m c).loss)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v67 (Pipeline.mem_restRefs_of main_v67 (by decide) (by decide))).trans
      (funext fun j => (congrArg _ (ix0_eta j).symm).trans ((result_read m c).trans (out1_loss m c (B c) (F c)))),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c)⟩) (run_main m ρ)

end Cert.KernelIdeal.Hand

end
-- ==== Proof.InRange.lean ====
/- What the precondition says of the arguments' elements: the indices are below a thousand, the rows they may name are finite. -/
module

public import proofs.«01_k».proof.Pre_in_range
public import proofs.«01_k».proof.Proof.Model
public import Idealize.ShloMosaic.Lib.Pointwise

@[expose] public section

set_option maxRecDepth 16384

noncomputable section

namespace Cert.Pre_in_range

open Idealize.ShloMosaic Cert.Model

/-- The shapes' relations. -/
theorem facts : Facts where
  bcast_S_S16384x8 := by decide
  bcast_S_S8x5 := by decide
  slices_S100001x100_S1000x100_0_0 := by decide
  bcast_S_S1000x100 := by decide
  slices_S1001x100_S1000x100_0_0 := by decide
  bcast_S_S8x100 := by decide

/-- A signed index between nought and a thousand is its value. -/
theorem index_eq (x : BitVec 32) (h : BitVec.ofBool ((0#32).sle x) &&& BitVec.ofBool (x.slt 1000#32) = 1#1) :
    x = BitVec.ofNat 32 (x.toNat % 1000) := by
  have h1 : (0#32).sle x = true := by
    cases hb : (0#32).sle x <;> simp [hb] at h ⊢
  have h2 : x.slt 1000#32 = true := by
    cases hb : x.slt 1000#32 <;> simp [hb] at h ⊢
  simp only [BitVec.sle, BitVec.slt, decide_eq_true_eq, BitVec.toInt_eq_toNat_cond] at h1 h2
  have : x.toNat < 1000 := by
    simp at h1 h2
    split at h1 <;> omega
  apply BitVec.eq_of_toNat_eq
  rw [BitVec.toNat_ofNat, Nat.mod_eq_of_lt this, Nat.mod_eq_of_lt x.isLt]

theorem finite_of (x : EReal) (h : max x (-x) < ⊤) : Fin' x := by
  induction x with
  | bot => simp at h
  | top => simp at h
  | coe r => exact ⟨r, rfl⟩

theorem finite_of_bit (x : EReal)
    (h : BitVec.ofBool (decide (FloatOps.absf (F := Ideal) (φ := .f32) x < Ideal.ofBits .f32 0x7F800000#32)) = 1#1) : Fin' x := by
  refine finite_of x ?_
  have ht : Ideal.ofBits .f32 0x7F800000#32 = (⊤ : EReal) := by simp [Ideal.ofBits, Ideal.ieee]
  rw [ht] at h
  by_contra hx
  have : ¬ (FloatOps.absf (F := Ideal) (φ := .f32) x < (⊤ : EReal)) := hx
  simp [this] at h

/-- The compared absolute values of a table's first thousand rows say that the rows are finite, -/
theorem finite_rows {n : ℕ} (hn : 1000 ≤ n) (x : FVec Ideal ⟨2, ![n, 100]⟩ .f32) (hs : (⟨2, ![n, 100]⟩ : Shape).Slices ![0, 0] S1000x100)
    (hb : S_.BroadcastsInDim S1000x100 (![] : Fin 0 → Fin S1000x100.rank))
    (h : cmpf .olt (Host.absf (extractStridedSlice S1000x100 ![0, 0] x hs)) (broadcastInDim S1000x100 ![] hb (constant (F := Ideal) S_ .f32 0x7F800000#32))
      = fun _ => 1#1) (k : Fin 1000) (d : Fin 100) : Fin' (x (ix2 ⟨k.val, by omega⟩ d)) := by
  have h := congrFun h (ix2 k d)
  pointwise at h
  refine finite_of_bit _ ((congrArg (fun y => BitVec.ofBool (decide (FloatOps.absf (F := Ideal) (φ := .f32) (x y)
    < Ideal.ofBits .f32 0x7F800000#32))) ?_).trans h)
  funext a
  apply Fin.ext
  fin_cases a <;> simp [Shape.Idx.norm, ix2]

/-- and those of the relation vectors that these are. -/
theorem finite_all (x : FVec Ideal S8x100 .f32) (hb : S_.BroadcastsInDim S8x100 (![] : Fin 0 → Fin S8x100.rank))
    (h : cmpf .olt (Host.absf x) (broadcastInDim S8x100 ![] hb (constant (F := Ideal) S_ .f32 0x7F800000#32)) = fun _ => 1#1)
    (i : Fin 8) (d : Fin 100) : Fin' (x (ix2 i d)) := by
  have h := congrFun h (ix2 i d)
  pointwise at h
  exact finite_of_bit _ h

variable [Facts]
variable {b0 : IVec S16384x8 32} {b1 : IVec S8x5 32} {b2 b3 b4 b7 : FVec Ideal S100001x100 .f32} {b5 b6 : FVec Ideal S1001x100 .f32}
  {b8 : FVec Ideal S8x100 .f32} {b9 b10 b11 b14 b15 b16 : FVec Ideal S100001x1 .f32} {b12 b13 : FVec Ideal S1001x1 .f32}

theorem batch_index (h : (fn (F := Ideal) b0 b1 b2 b3 b4 b5 b6 b7 b8 b9 b10 b11 b12 b13 b14 b15 b16).1 = fun _ => 1#1) (b : Fin 16384) (g : Fin 8) :
    b0 (ix2 b g) = BitVec.ofNat 32 ((b0 (ix2 b g)).toNat % 1000) := by
  have h := congrFun h (ix2 b g)
  unfold fn fn_part1 at h
  pointwise at h
  exact index_eq _ h

theorem negs_index (h : (fn (F := Ideal) b0 b1 b2 b3 b4 b5 b6 b7 b8 b9 b10 b11 b12 b13 b14 b15 b16).2.1 = fun _ => 1#1) (i : Fin 8) (k : Fin 5) :
    b1 (ix2 i k) = BitVec.ofNat 32 ((b1 (ix2 i k)).toNat % 1000) := by
  have h := congrFun h (ix2 i k)
  unfold fn fn_part1 at h
  pointwise at h
  exact index_eq _ h

end Cert.Pre_in_range

end
-- ==== Proof.Reference.lean ====
/- The reference's result as the loss: its gathers read rows of the tables, a relation's mean is the mean of its terms. -/
module

public import proofs.«01_k».proof.Proof.Loss
public import proofs.«01_k».proof.Proof.Gen.ReferenceIdeal.Run
public import Idealize.ShloMosaic.Lib.Pointwise
public import Idealize.ShloMosaic.Lib.Routing.Ops

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Cert.Model

/-- A relation's mean, as the reference computes it from the heads with the relation vector added, the tails, the tails' biases
    and the negatives. -/
def relMean (ex t : FVec Ideal S16384x100 .f32) (rb : FVec Ideal S16384 .f32) (n : FVec Ideal S5x100 .f32) : FVec Ideal S_ .f32 :=
  let zero := constant (F := Ideal) S_ .f32 0x00000000#32
  let p := Host.negf (addf (Host.reduceAdd (mulf ex t) zero reducesTo_S16384x100_S16384_d1 h_S_) rb)
  let z := Host.negf (Host.negf (addf (Host.dotGeneral dot_S16384x100_S100x5_S16384x5_1_0_0_1_n_n none ex (transpose S100x5 [1, 0] n transposes_S5x100_S100x5_1_0)) (broadcastInDim S16384x5 ![0, 1] bcast_S16384x1_S16384x5_0_1 (broadcastInDim S16384x1 ![0] bcast_S16384_S16384x1_0 rb))))
  let p0 := subf p (broadcastInDim S16384 ![] bcast_S_S16384 zero)
  let z0 := subf z (broadcastInDim S16384x5 ![] bcast_S_S16384x5 zero)
  Host.divf (Host.reduceAdd (addf (Host.negf (Host.negf (select (cmpf .une p0 p0) (addf p (broadcastInDim S16384 ![] bcast_S_S16384 zero)) (addf (maximumf p (broadcastInDim S16384 ![] bcast_S_S16384 zero)) (Host.log1p (Host.exp (Host.negf (Host.absf p0))))))))
    (Host.negf (Host.reduceAdd (Host.negf (select (cmpf .une z0 z0) (addf z (broadcastInDim S16384x5 ![] bcast_S_S16384x5 zero)) (addf (maximumf z (broadcastInDim S16384x5 ![] bcast_S_S16384x5 zero)) (Host.log1p (Host.exp (Host.negf (Host.absf z0))))))) zero reducesTo_S16384x5_S16384_d1 h_S_))) zero reducesTo_S16384_S_d0 h_S_) (constant S_ .f32 0x46800000#32)

theorem neg_sum_neg {n : ℕ} (f : Fin n → EReal) (h : ∀ k, 0 ≤ f k) : -∑ k, -f k = ∑ k, f k := by
  have : ∑ k, -f k = -∑ k, f k := by
    induction n with
    | zero => simp
    | succ n ih =>
      rw [Fin.sum_univ_succ, Fin.sum_univ_succ, ih (fun k => f k.succ) fun k => h k.succ,
        EReal.neg_add (Or.inl (lt_of_lt_of_le EReal.bot_lt_zero (h 0)).ne') (Or.inr (lt_of_lt_of_le EReal.bot_lt_zero (Finset.sum_nonneg fun k _ => h k.succ)).ne'),
        sub_eq_add_neg]
  rw [this, neg_neg]

theorem neg_sum_sp {n : ℕ} (f : Fin n → EReal) : -∑ k, -sp (f k) = ∑ k, sp (f k) := neg_sum_neg _ fun _ => sp_nonneg _

theorem sp_eq (z : EReal) : max z 0 + Ideal.log1p (Ideal.exp (-(FloatOps.absf (F := Ideal) (φ := .f32) z))) = sp z := rfl

theorem relMean_at (ex t : FVec Ideal S16384x100 .f32) (rb : FVec Ideal S16384 .f32) (n : FVec Ideal S5x100 .f32) :
    relMean ex t rb n ix0 = Ideal.div (∑ b : Fin 16384, (sp (-(∑ d : Fin 100, ex (ix2 b d) * t (ix2 b d) + rb (ix1 b)))
      + ∑ k : Fin 5, sp (∑ d : Fin 100, ex (ix2 b d) * n (ix2 k d) + rb (ix1 b)))) (Ideal.ofBits .f32 0x46800000#32) := by
  pointwise [relMean]
  simp only [ne_eq, not_true_eq_false, if_false, neg_neg]
  simp only [sp_eq, neg_sum_sp]

/-- It is the mean of a relation's terms. -/
theorem relMean_term (D : Data) (i : Fin 8) (ex t : FVec Ideal S16384x100 .f32) (rb : FVec Ideal S16384 .f32) (n : FVec Ideal S5x100 .f32)
    (hex : ∀ b d, ex (ix2 b d) = D.row (Data.hd i) b d + D.rel i d) (ht : ∀ b d, t (ix2 b d) = D.row (Data.tl i) b d)
    (hrb : ∀ b, rb (ix1 b) = D.bias i (D.ι (Data.tl i) b)) (hn : ∀ k d, n (ix2 k d) = D.neg i k d) :
    relMean ex t rb n ix0 = D.mean i := by
  rw [relMean_at]
  simp only [hex, ht, hrb, hn]
  rfl

/-- The norm of an array of rows, as the reference computes it. -/
theorem norm_batch (x : FVec Ideal S16384x100 .f32) :
    Host.sqrt (Host.reduceAdd (mulf x x) (constant S_ .f32 0x00000000#32) reducesTo_S16384x100_S_d0_1 h_S_) ix0
      = Ideal.sqrt (∑ b : Fin 16384, ∑ d : Fin 100, x (ix2 b d) * x (ix2 b d)) := by
  pointwise

theorem norm_five (x : FVec Ideal S5x100 .f32) :
    Host.sqrt (Host.reduceAdd (mulf x x) (constant S_ .f32 0x00000000#32) reducesTo_S5x100_S_d0_1 h_S_) ix0
      = Ideal.sqrt (∑ b : Fin 5, ∑ d : Fin 100, x (ix2 b d) * x (ix2 b d)) := by
  pointwise

theorem norm_batch' (D : Data) (g : Fin 8) (x : FVec Ideal S16384x100 .f32) (h : ∀ b d, x (ix2 b d) = D.row g b d) :
    Host.sqrt (Host.reduceAdd (mulf x x) (constant S_ .f32 0x00000000#32) reducesTo_S16384x100_S_d0_1 h_S_) ix0 = D.G g := by
  rw [norm_batch]; simp only [h]; rfl

theorem norm_five' (D : Data) (i : Fin 8) (x : FVec Ideal S5x100 .f32) (h : ∀ k d, x (ix2 k d) = D.neg i k d) :
    Host.sqrt (Host.reduceAdd (mulf x x) (constant S_ .f32 0x00000000#32) reducesTo_S5x100_S_d0_1 h_S_) ix0 = D.M i := by
  rw [norm_five]; simp only [h]; rfl

/-! ## The gathers -/

/-- An index below a thousand, as a row number of a table. -/
abbrev big (k : Fin 1000) : Fin 100001 := ⟨k.val, by omega⟩
abbrev small (k : Fin 1000) : Fin 1001 := ⟨k.val, by omega⟩

theorem rows_big (tab : FVec Ideal S100001x100 .f32) (ix : IVec S16384 32) (b : Fin 16384) (d : Fin 100) (k : Fin 1000) (hk : ix (ix1 b) = BitVec.ofNat 32 k.val) :
    Host.gather gather_S100001x100_S16384x1_S16384x100_1_0_n_n_0_1_1100 tab (broadcastInDim S16384x1 ![0] bcast_S16384_S16384x1_0 ix) (ix2 b d) = tab (ix2 (big k) d) := by
  refine Routing.gather_row gather_S100001x100_S16384x1_S16384x100_1_0_n_n_0_1_1100 rfl rfl rfl rfl rfl tab _ b d (big k) ?_ (by decide)
  pointwise
  exact hk

theorem rows_small (tab : FVec Ideal S1001x100 .f32) (ix : IVec S16384 32) (b : Fin 16384) (d : Fin 100) (k : Fin 1000) (hk : ix (ix1 b) = BitVec.ofNat 32 k.val) :
    Host.gather gather_S1001x100_S16384x1_S16384x100_1_0_n_n_0_1_1100 tab (broadcastInDim S16384x1 ![0] bcast_S16384_S16384x1_0 ix) (ix2 b d) = tab (ix2 (small k) d) := by
  refine Routing.gather_row gather_S1001x100_S16384x1_S16384x100_1_0_n_n_0_1_1100 rfl rfl rfl rfl rfl tab _ b d (small k) ?_ (by decide)
  pointwise
  exact hk

theorem five_big (tab : FVec Ideal S100001x100 .f32) (ix : IVec S5 32) (b : Fin 5) (d : Fin 100) (k : Fin 1000) (hk : ix (ix1 b) = BitVec.ofNat 32 k.val) :
    Host.gather gather_S100001x100_S5x1_S5x100_1_0_n_n_0_1_1100 tab (broadcastInDim S5x1 ![0] bcast_S5_S5x1_0 ix) (ix2 b d) = tab (ix2 (big k) d) := by
  refine Routing.gather_row gather_S100001x100_S5x1_S5x100_1_0_n_n_0_1_1100 rfl rfl rfl rfl rfl tab _ b d (big k) ?_ (by decide)
  pointwise
  exact hk

theorem five_small (tab : FVec Ideal S1001x100 .f32) (ix : IVec S5 32) (b : Fin 5) (d : Fin 100) (k : Fin 1000) (hk : ix (ix1 b) = BitVec.ofNat 32 k.val) :
    Host.gather gather_S1001x100_S5x1_S5x100_1_0_n_n_0_1_1100 tab (broadcastInDim S5x1 ![0] bcast_S5_S5x1_0 ix) (ix2 b d) = tab (ix2 (small k) d) := by
  refine Routing.gather_row gather_S1001x100_S5x1_S5x100_1_0_n_n_0_1_1100 rfl rfl rfl rfl rfl tab _ b d (small k) ?_ (by decide)
  pointwise
  exact hk

theorem bias_big (tab : FVec Ideal S100001x1 .f32) (ix : IVec S16384 32) (b : Fin 16384) (k : Fin 1000) (hk : ix (ix1 b) = BitVec.ofNat 32 k.val) :
    (shapeCast S16384 (Host.gather gather_S100001x1_S16384x1_S16384x1_1_0_n_n_0_1_11 tab (broadcastInDim S16384x1 ![0] bcast_S16384_S16384x1_0 ix)) shapeCasts_S16384x1_S16384 : FVec Ideal S16384 .f32) (ix1 b) = tab (ix2 (big k) 0) := by
  have h : Host.gather gather_S100001x1_S16384x1_S16384x1_1_0_n_n_0_1_11 tab (broadcastInDim S16384x1 ![0] bcast_S16384_S16384x1_0 ix) (ix2 b 0) = tab (ix2 (big k) 0) := by
    refine Routing.gather_row gather_S100001x1_S16384x1_S16384x1_1_0_n_n_0_1_11 rfl rfl rfl rfl rfl tab _ b 0 (big k) ?_ (by decide)
    pointwise
    exact hk
  pointwise
  exact h

theorem bias_small (tab : FVec Ideal S1001x1 .f32) (ix : IVec S16384 32) (b : Fin 16384) (k : Fin 1000) (hk : ix (ix1 b) = BitVec.ofNat 32 k.val) :
    (shapeCast S16384 (Host.gather gather_S1001x1_S16384x1_S16384x1_1_0_n_n_0_1_11 tab (broadcastInDim S16384x1 ![0] bcast_S16384_S16384x1_0 ix)) shapeCasts_S16384x1_S16384 : FVec Ideal S16384 .f32) (ix1 b) = tab (ix2 (small k) 0) := by
  have h : Host.gather gather_S1001x1_S16384x1_S16384x1_1_0_n_n_0_1_11 tab (broadcastInDim S16384x1 ![0] bcast_S16384_S16384x1_0 ix) (ix2 b 0) = tab (ix2 (small k) 0) := by
    refine Routing.gather_row gather_S1001x1_S16384x1_S16384x1_1_0_n_n_0_1_11 rfl rfl rfl rfl rfl tab _ b 0 (small k) ?_ (by decide)
    pointwise
    exact hk
  pointwise
  exact h

/-- The arguments hold the data. -/
structure Holds (D : Data) (L : Valuation τ sig (Elt Ideal)) : Prop where
  h0 : ∀ (b : Fin 16384) (g : Fin 8), (L (Proc.devRef .tc main_arg0) : Vec Ideal S16384x8 .i32) (ix2 b g) = BitVec.ofNat 32 (D.ι g b).val
  h1 : ∀ (i : Fin 8) (k : Fin 5), (L (Proc.devRef .tc main_arg1) : Vec Ideal S8x5 .i32) (ix2 i k) = BitVec.ofNat 32 (D.ν i k).val
  h2 : ∀ (k : Fin 1000) (d : Fin 100), (L (Proc.devRef .tc main_arg2) : FVec Ideal S100001x100 .f32) (ix2 (big k) d) = D.tab 0 k d
  h3 : ∀ (k : Fin 1000) (d : Fin 100), (L (Proc.devRef .tc main_arg3) : FVec Ideal S100001x100 .f32) (ix2 (big k) d) = D.tab 1 k d
  h4 : ∀ (k : Fin 1000) (d : Fin 100), (L (Proc.devRef .tc main_arg4) : FVec Ideal S100001x100 .f32) (ix2 (big k) d) = D.tab 2 k d
  h5 : ∀ (k : Fin 1000) (d : Fin 100), (L (Proc.devRef .tc main_arg5) : FVec Ideal S1001x100 .f32) (ix2 (small k) d) = D.tab 3 k d
  h6 : ∀ (k : Fin 1000) (d : Fin 100), (L (Proc.devRef .tc main_arg6) : FVec Ideal S1001x100 .f32) (ix2 (small k) d) = D.tab 4 k d
  h7 : ∀ (k : Fin 1000) (d : Fin 100), (L (Proc.devRef .tc main_arg7) : FVec Ideal S100001x100 .f32) (ix2 (big k) d) = D.tab 5 k d
  h8 : ∀ (i : Fin 8) (d : Fin 100), (L (Proc.devRef .tc main_arg8) : FVec Ideal S8x100 .f32) (ix2 i d) = D.rel i d
  h9 : ∀ (k : Fin 1000), (L (Proc.devRef .tc main_arg9) : FVec Ideal S100001x1 .f32) (ix2 (big k) 0) = D.bias 0 k
  h10 : ∀ (k : Fin 1000), (L (Proc.devRef .tc main_arg10) : FVec Ideal S100001x1 .f32) (ix2 (big k) 0) = D.bias 1 k
  h11 : ∀ (k : Fin 1000), (L (Proc.devRef .tc main_arg11) : FVec Ideal S100001x1 .f32) (ix2 (big k) 0) = D.bias 2 k
  h12 : ∀ (k : Fin 1000), (L (Proc.devRef .tc main_arg12) : FVec Ideal S1001x1 .f32) (ix2 (small k) 0) = D.bias 3 k
  h13 : ∀ (k : Fin 1000), (L (Proc.devRef .tc main_arg13) : FVec Ideal S1001x1 .f32) (ix2 (small k) 0) = D.bias 4 k
  h14 : ∀ (k : Fin 1000), (L (Proc.devRef .tc main_arg14) : FVec Ideal S100001x1 .f32) (ix2 (big k) 0) = D.bias 5 k
  h15 : ∀ (k : Fin 1000), (L (Proc.devRef .tc main_arg15) : FVec Ideal S100001x1 .f32) (ix2 (big k) 0) = D.bias 6 k
  h16 : ∀ (k : Fin 1000), (L (Proc.devRef .tc main_arg16) : FVec Ideal S100001x1 .f32) (ix2 (big k) 0) = D.bias 7 k

section
variable {D : Data} {L : Valuation τ sig (Elt Ideal)} (H : Holds D L)
include H

/-! The columns of the batch, the rows they name, the biases and the negatives. -/

theorem col0 (b : Fin 16384) : (res_main_v1 L : IVec S16384 32) (ix1 b) = BitVec.ofNat 32 (D.ι 0 b).val := by
  unfold res_main_v1
  pointwise
  exact H.h0 b 0
theorem col1 (b : Fin 16384) : (res_main_v3 L : IVec S16384 32) (ix1 b) = BitVec.ofNat 32 (D.ι 1 b).val := by
  unfold res_main_v3
  pointwise
  exact H.h0 b 1
theorem col2 (b : Fin 16384) : (res_main_v5 L : IVec S16384 32) (ix1 b) = BitVec.ofNat 32 (D.ι 2 b).val := by
  unfold res_main_v5
  pointwise
  exact H.h0 b 2
theorem col3 (b : Fin 16384) : (res_main_v7 L : IVec S16384 32) (ix1 b) = BitVec.ofNat 32 (D.ι 3 b).val := by
  unfold res_main_v7
  pointwise
  exact H.h0 b 3
theorem col4 (b : Fin 16384) : (res_main_v9 L : IVec S16384 32) (ix1 b) = BitVec.ofNat 32 (D.ι 4 b).val := by
  unfold res_main_v9
  pointwise
  exact H.h0 b 4
theorem col5 (b : Fin 16384) : (res_main_v11 L : IVec S16384 32) (ix1 b) = BitVec.ofNat 32 (D.ι 5 b).val := by
  unfold res_main_v11
  pointwise
  exact H.h0 b 5
theorem col6 (b : Fin 16384) : (res_main_v13 L : IVec S16384 32) (ix1 b) = BitVec.ofNat 32 (D.ι 6 b).val := by
  unfold res_main_v13
  pointwise
  exact H.h0 b 6
theorem col7 (b : Fin 16384) : (res_main_v15 L : IVec S16384 32) (ix1 b) = BitVec.ofNat 32 (D.ι 7 b).val := by
  unfold res_main_v15
  pointwise
  exact H.h0 b 7
theorem head0 (b : Fin 16384) (d : Fin 100) : (res_main_v20 L : FVec Ideal S16384x100 .f32) (ix2 b d) = D.row 0 b d :=
  (rows_big _ _ b d _ (col0 H b)).trans (H.h2 _ d)
theorem tail0 (b : Fin 16384) (d : Fin 100) : (res_main_v24 L : FVec Ideal S16384x100 .f32) (ix2 b d) = D.row 1 b d :=
  (rows_big _ _ b d _ (col1 H b)).trans (H.h3 _ d)
theorem bias0 (b : Fin 16384) : (res_main_v26 L : FVec Ideal S16384 .f32) (ix1 b) = D.bias 0 (D.ι 1 b) :=
  (bias_big _ _ b _ (col1 H b)).trans (H.h9 _)
theorem neg0 (k : Fin 5) (d : Fin 100) : (res_main_v32 L : FVec Ideal S5x100 .f32) (ix2 k d) = D.neg 0 k d := by
  refine (five_big _ _ k d (D.ν 0 k) ?_).trans (H.h3 _ d)
  pointwise
  exact H.h1 0 k
theorem ex0 (b : Fin 16384) (d : Fin 100) : (res_main_v23 L : FVec Ideal S16384x100 .f32) (ix2 b d) = D.row 0 b d + D.rel 0 d := by
  unfold res_main_v23
  pointwise
  exact congrArg₂ (· + ·) (head0 H b d) (H.h8 0 d)
theorem mean0 : relMean (res_main_v23 L) (res_main_v24 L) (res_main_v26 L) (res_main_v32 L) ix0 = D.mean 0 :=
  relMean_term D 0 _ _ _ _ (ex0 H) (tail0 H) (bias0 H) (neg0 H)

theorem head1 (b : Fin 16384) (d : Fin 100) : (res_main_v50 L : FVec Ideal S16384x100 .f32) (ix2 b d) = D.row 0 b d :=
  (rows_big _ _ b d _ (col0 H b)).trans (H.h2 _ d)
theorem tail1 (b : Fin 16384) (d : Fin 100) : (res_main_v54 L : FVec Ideal S16384x100 .f32) (ix2 b d) = D.row 2 b d :=
  (rows_big _ _ b d _ (col2 H b)).trans (H.h4 _ d)
theorem bias1 (b : Fin 16384) : (res_main_v56 L : FVec Ideal S16384 .f32) (ix1 b) = D.bias 1 (D.ι 2 b) :=
  (bias_big _ _ b _ (col2 H b)).trans (H.h10 _)
theorem neg1 (k : Fin 5) (d : Fin 100) : (res_main_v62 L : FVec Ideal S5x100 .f32) (ix2 k d) = D.neg 1 k d := by
  refine (five_big _ _ k d (D.ν 1 k) ?_).trans (H.h4 _ d)
  pointwise
  exact H.h1 1 k
theorem ex1 (b : Fin 16384) (d : Fin 100) : (res_main_v53 L : FVec Ideal S16384x100 .f32) (ix2 b d) = D.row 0 b d + D.rel 1 d := by
  unfold res_main_v53
  pointwise
  exact congrArg₂ (· + ·) (head1 H b d) (H.h8 1 d)
theorem mean1 : relMean (res_main_v53 L) (res_main_v54 L) (res_main_v56 L) (res_main_v62 L) ix0 = D.mean 1 :=
  relMean_term D 1 _ _ _ _ (ex1 H) (tail1 H) (bias1 H) (neg1 H)

theorem head2 (b : Fin 16384) (d : Fin 100) : (res_main_v80 L : FVec Ideal S16384x100 .f32) (ix2 b d) = D.row 1 b d :=
  (rows_big _ _ b d _ (col1 H b)).trans (H.h3 _ d)
theorem tail2 (b : Fin 16384) (d : Fin 100) : (res_main_v84 L : FVec Ideal S16384x100 .f32) (ix2 b d) = D.row 2 b d :=
  (rows_big _ _ b d _ (col2 H b)).trans (H.h4 _ d)
theorem bias2 (b : Fin 16384) : (res_main_v86 L : FVec Ideal S16384 .f32) (ix1 b) = D.bias 2 (D.ι 2 b) :=
  (bias_big _ _ b _ (col2 H b)).trans (H.h11 _)
theorem neg2 (k : Fin 5) (d : Fin 100) : (res_main_v92 L : FVec Ideal S5x100 .f32) (ix2 k d) = D.neg 2 k d := by
  refine (five_big _ _ k d (D.ν 2 k) ?_).trans (H.h4 _ d)
  pointwise
  exact H.h1 2 k
theorem ex2 (b : Fin 16384) (d : Fin 100) : (res_main_v83 L : FVec Ideal S16384x100 .f32) (ix2 b d) = D.row 1 b d + D.rel 2 d := by
  unfold res_main_v83
  pointwise
  exact congrArg₂ (· + ·) (head2 H b d) (H.h8 2 d)
theorem mean2 : relMean (res_main_v83 L) (res_main_v84 L) (res_main_v86 L) (res_main_v92 L) ix0 = D.mean 2 :=
  relMean_term D 2 _ _ _ _ (ex2 H) (tail2 H) (bias2 H) (neg2 H)

theorem head3 (b : Fin 16384) (d : Fin 100) : (res_main_v110 L : FVec Ideal S16384x100 .f32) (ix2 b d) = D.row 1 b d :=
  (rows_big _ _ b d _ (col1 H b)).trans (H.h3 _ d)
theorem tail3 (b : Fin 16384) (d : Fin 100) : (res_main_v114 L : FVec Ideal S16384x100 .f32) (ix2 b d) = D.row 3 b d :=
  (rows_small _ _ b d _ (col3 H b)).trans (H.h5 _ d)
theorem bias3 (b : Fin 16384) : (res_main_v116 L : FVec Ideal S16384 .f32) (ix1 b) = D.bias 3 (D.ι 3 b) :=
  (bias_small _ _ b _ (col3 H b)).trans (H.h12 _)
theorem neg3 (k : Fin 5) (d : Fin 100) : (res_main_v122 L : FVec Ideal S5x100 .f32) (ix2 k d) = D.neg 3 k d := by
  refine (five_small _ _ k d (D.ν 3 k) ?_).trans (H.h5 _ d)
  pointwise
  exact H.h1 3 k
theorem ex3 (b : Fin 16384) (d : Fin 100) : (res_main_v113 L : FVec Ideal S16384x100 .f32) (ix2 b d) = D.row 1 b d + D.rel 3 d := by
  unfold res_main_v113
  pointwise
  exact congrArg₂ (· + ·) (head3 H b d) (H.h8 3 d)
theorem mean3 : relMean (res_main_v113 L) (res_main_v114 L) (res_main_v116 L) (res_main_v122 L) ix0 = D.mean 3 :=
  relMean_term D 3 _ _ _ _ (ex3 H) (tail3 H) (bias3 H) (neg3 H)

theorem head4 (b : Fin 16384) (d : Fin 100) : (res_main_v140 L : FVec Ideal S16384x100 .f32) (ix2 b d) = D.row 1 b d :=
  (rows_big _ _ b d _ (col1 H b)).trans (H.h3 _ d)
theorem tail4 (b : Fin 16384) (d : Fin 100) : (res_main_v144 L : FVec Ideal S16384x100 .f32) (ix2 b d) = D.row 4 b d :=
  (rows_small _ _ b d _ (col4 H b)).trans (H.h6 _ d)
theorem bias4 (b : Fin 16384) : (res_main_v146 L : FVec Ideal S16384 .f32) (ix1 b) = D.bias 4 (D.ι 4 b) :=
  (bias_small _ _ b _ (col4 H b)).trans (H.h13 _)
theorem neg4 (k : Fin 5) (d : Fin 100) : (res_main_v152 L : FVec Ideal S5x100 .f32) (ix2 k d) = D.neg 4 k d := by
  refine (five_small _ _ k d (D.ν 4 k) ?_).trans (H.h6 _ d)
  pointwise
  exact H.h1 4 k
theorem ex4 (b : Fin 16384) (d : Fin 100) : (res_main_v143 L : FVec Ideal S16384x100 .f32) (ix2 b d) = D.row 1 b d + D.rel 4 d := by
  unfold res_main_v143
  pointwise
  exact congrArg₂ (· + ·) (head4 H b d) (H.h8 4 d)
theorem mean4 : relMean (res_main_v143 L) (res_main_v144 L) (res_main_v146 L) (res_main_v152 L) ix0 = D.mean 4 :=
  relMean_term D 4 _ _ _ _ (ex4 H) (tail4 H) (bias4 H) (neg4 H)

theorem head5 (b : Fin 16384) (d : Fin 100) : (res_main_v170 L : FVec Ideal S16384x100 .f32) (ix2 b d) = D.row 1 b d :=
  (rows_big _ _ b d _ (col1 H b)).trans (H.h3 _ d)
theorem tail5 (b : Fin 16384) (d : Fin 100) : (res_main_v174 L : FVec Ideal S16384x100 .f32) (ix2 b d) = D.row 5 b d :=
  (rows_big _ _ b d _ (col5 H b)).trans (H.h7 _ d)
theorem bias5 (b : Fin 16384) : (res_main_v176 L : FVec Ideal S16384 .f32) (ix1 b) = D.bias 5 (D.ι 5 b) :=
  (bias_big _ _ b _ (col5 H b)).trans (H.h14 _)
theorem neg5 (k : Fin 5) (d : Fin 100) : (res_main_v182 L : FVec Ideal S5x100 .f32) (ix2 k d) = D.neg 5 k d := by
  refine (five_big _ _ k d (D.ν 5 k) ?_).trans (H.h7 _ d)
  pointwise
  exact H.h1 5 k
theorem ex5 (b : Fin 16384) (d : Fin 100) : (res_main_v173 L : FVec Ideal S16384x100 .f32) (ix2 b d) = D.row 1 b d + D.rel 5 d := by
  unfold res_main_v173
  pointwise
  exact congrArg₂ (· + ·) (head5 H b d) (H.h8 5 d)
theorem mean5 : relMean (res_main_v173 L) (res_main_v174 L) (res_main_v176 L) (res_main_v182 L) ix0 = D.mean 5 :=
  relMean_term D 5 _ _ _ _ (ex5 H) (tail5 H) (bias5 H) (neg5 H)

theorem head6 (b : Fin 16384) (d : Fin 100) : (res_main_v200 L : FVec Ideal S16384x100 .f32) (ix2 b d) = D.row 1 b d :=
  (rows_big _ _ b d _ (col1 H b)).trans (H.h3 _ d)
theorem tail6 (b : Fin 16384) (d : Fin 100) : (res_main_v204 L : FVec Ideal S16384x100 .f32) (ix2 b d) = D.row 6 b d :=
  (rows_big _ _ b d _ (col6 H b)).trans (H.h7 _ d)
theorem bias6 (b : Fin 16384) : (res_main_v206 L : FVec Ideal S16384 .f32) (ix1 b) = D.bias 6 (D.ι 6 b) :=
  (bias_big _ _ b _ (col6 H b)).trans (H.h15 _)
theorem neg6 (k : Fin 5) (d : Fin 100) : (res_main_v212 L : FVec Ideal S5x100 .f32) (ix2 k d) = D.neg 6 k d := by
  refine (five_big _ _ k d (D.ν 6 k) ?_).trans (H.h7 _ d)
  pointwise
  exact H.h1 6 k
theorem ex6 (b : Fin 16384) (d : Fin 100) : (res_main_v203 L : FVec Ideal S16384x100 .f32) (ix2 b d) = D.row 1 b d + D.rel 6 d := by
  unfold res_main_v203
  pointwise
  exact congrArg₂ (· + ·) (head6 H b d) (H.h8 6 d)
theorem mean6 : relMean (res_main_v203 L) (res_main_v204 L) (res_main_v206 L) (res_main_v212 L) ix0 = D.mean 6 :=
  relMean_term D 6 _ _ _ _ (ex6 H) (tail6 H) (bias6 H) (neg6 H)

theorem head7 (b : Fin 16384) (d : Fin 100) : (res_main_v230 L : FVec Ideal S16384x100 .f32) (ix2 b d) = D.row 1 b d :=
  (rows_big _ _ b d _ (col1 H b)).trans (H.h3 _ d)
theorem tail7 (b : Fin 16384) (d : Fin 100) : (res_main_v234 L : FVec Ideal S16384x100 .f32) (ix2 b d) = D.row 7 b d :=
  (rows_big _ _ b d _ (col7 H b)).trans (H.h7 _ d)
theorem bias7 (b : Fin 16384) : (res_main_v236 L : FVec Ideal S16384 .f32) (ix1 b) = D.bias 7 (D.ι 7 b) :=
  (bias_big _ _ b _ (col7 H b)).trans (H.h16 _)
theorem neg7 (k : Fin 5) (d : Fin 100) : (res_main_v242 L : FVec Ideal S5x100 .f32) (ix2 k d) = D.neg 7 k d := by
  refine (five_big _ _ k d (D.ν 7 k) ?_).trans (H.h7 _ d)
  pointwise
  exact H.h1 7 k
theorem ex7 (b : Fin 16384) (d : Fin 100) : (res_main_v233 L : FVec Ideal S16384x100 .f32) (ix2 b d) = D.row 1 b d + D.rel 7 d := by
  unfold res_main_v233
  pointwise
  exact congrArg₂ (· + ·) (head7 H b d) (H.h8 7 d)
theorem mean7 : relMean (res_main_v233 L) (res_main_v234 L) (res_main_v236 L) (res_main_v242 L) ix0 = D.mean 7 :=
  relMean_term D 7 _ _ _ _ (ex7 H) (tail7 H) (bias7 H) (neg7 H)

end

/-! ## The sums -/

theorem means_head (L : Valuation τ sig (Elt Ideal)) : res_main_v135 L = addf (addf (addf (addf (constant S_ .f32 0x00000000#32) (relMean (res_main_v23 L) (res_main_v24 L) (res_main_v26 L) (res_main_v32 L))) (relMean (res_main_v53 L) (res_main_v54 L) (res_main_v56 L) (res_main_v62 L))) (relMean (res_main_v83 L) (res_main_v84 L) (res_main_v86 L) (res_main_v92 L))) (relMean (res_main_v113 L) (res_main_v114 L) (res_main_v116 L) (res_main_v122 L)) := by
  rfl

theorem means (L : Valuation τ sig (Elt Ideal)) : res_main_v255 L = addf (addf (addf (addf (res_main_v135 L) (relMean (res_main_v143 L) (res_main_v144 L) (res_main_v146 L) (res_main_v152 L))) (relMean (res_main_v173 L) (res_main_v174 L) (res_main_v176 L) (res_main_v182 L))) (relMean (res_main_v203 L) (res_main_v204 L) (res_main_v206 L) (res_main_v212 L))) (relMean (res_main_v233 L) (res_main_v234 L) (res_main_v236 L) (res_main_v242 L)) := by
  rfl

/-- The reference's result. -/
def result (L : Valuation τ sig (Elt Ideal)) : FVec Ideal S_ .f32 :=
  addf (res_main_v255 L) (mulf (constant S_ .f32 0x3A83126F#32) (addf (addf (addf (addf (addf (addf (addf (addf (addf (addf (addf (addf (addf (addf (addf (addf (addf (addf (addf (addf (addf (addf (addf (addf (constant S_ .f32 0x00000000#32) (Host.sqrt (Host.reduceAdd (mulf (res_main_v20 L) (res_main_v20 L)) (constant S_ .f32 0x00000000#32) reducesTo_S16384x100_S_d0_1 h_S_))) (Host.sqrt (Host.reduceAdd (mulf (res_main_v24 L) (res_main_v24 L)) (constant S_ .f32 0x00000000#32) reducesTo_S16384x100_S_d0_1 h_S_))) (Host.sqrt (Host.reduceAdd (mulf (res_main_v32 L) (res_main_v32 L)) (constant S_ .f32 0x00000000#32) reducesTo_S5x100_S_d0_1 h_S_))) (Host.sqrt (Host.reduceAdd (mulf (res_main_v50 L) (res_main_v50 L)) (constant S_ .f32 0x00000000#32) reducesTo_S16384x100_S_d0_1 h_S_))) (Host.sqrt (Host.reduceAdd (mulf (res_main_v54 L) (res_main_v54 L)) (constant S_ .f32 0x00000000#32) reducesTo_S16384x100_S_d0_1 h_S_))) (Host.sqrt (Host.reduceAdd (mulf (res_main_v62 L) (res_main_v62 L)) (constant S_ .f32 0x00000000#32) reducesTo_S5x100_S_d0_1 h_S_))) (Host.sqrt (Host.reduceAdd (mulf (res_main_v80 L) (res_main_v80 L)) (constant S_ .f32 0x00000000#32) reducesTo_S16384x100_S_d0_1 h_S_))) (Host.sqrt (Host.reduceAdd (mulf (res_main_v84 L) (res_main_v84 L)) (constant S_ .f32 0x00000000#32) reducesTo_S16384x100_S_d0_1 h_S_))) (Host.sqrt (Host.reduceAdd (mulf (res_main_v92 L) (res_main_v92 L)) (constant S_ .f32 0x00000000#32) reducesTo_S5x100_S_d0_1 h_S_))) (Host.sqrt (Host.reduceAdd (mulf (res_main_v110 L) (res_main_v110 L)) (constant S_ .f32 0x00000000#32) reducesTo_S16384x100_S_d0_1 h_S_))) (Host.sqrt (Host.reduceAdd (mulf (res_main_v114 L) (res_main_v114 L)) (constant S_ .f32 0x00000000#32) reducesTo_S16384x100_S_d0_1 h_S_))) (Host.sqrt (Host.reduceAdd (mulf (res_main_v122 L) (res_main_v122 L)) (constant S_ .f32 0x00000000#32) reducesTo_S5x100_S_d0_1 h_S_))) (Host.sqrt (Host.reduceAdd (mulf (res_main_v140 L) (res_main_v140 L)) (constant S_ .f32 0x00000000#32) reducesTo_S16384x100_S_d0_1 h_S_))) (Host.sqrt (Host.reduceAdd (mulf (res_main_v144 L) (res_main_v144 L)) (constant S_ .f32 0x00000000#32) reducesTo_S16384x100_S_d0_1 h_S_))) (Host.sqrt (Host.reduceAdd (mulf (res_main_v152 L) (res_main_v152 L)) (constant S_ .f32 0x00000000#32) reducesTo_S5x100_S_d0_1 h_S_))) (Host.sqrt (Host.reduceAdd (mulf (res_main_v170 L) (res_main_v170 L)) (constant S_ .f32 0x00000000#32) reducesTo_S16384x100_S_d0_1 h_S_))) (Host.sqrt (Host.reduceAdd (mulf (res_main_v174 L) (res_main_v174 L)) (constant S_ .f32 0x00000000#32) reducesTo_S16384x100_S_d0_1 h_S_))) (Host.sqrt (Host.reduceAdd (mulf (res_main_v182 L) (res_main_v182 L)) (constant S_ .f32 0x00000000#32) reducesTo_S5x100_S_d0_1 h_S_))) (Host.sqrt (Host.reduceAdd (mulf (res_main_v200 L) (res_main_v200 L)) (constant S_ .f32 0x00000000#32) reducesTo_S16384x100_S_d0_1 h_S_))) (Host.sqrt (Host.reduceAdd (mulf (res_main_v204 L) (res_main_v204 L)) (constant S_ .f32 0x00000000#32) reducesTo_S16384x100_S_d0_1 h_S_))) (Host.sqrt (Host.reduceAdd (mulf (res_main_v212 L) (res_main_v212 L)) (constant S_ .f32 0x00000000#32) reducesTo_S5x100_S_d0_1 h_S_))) (Host.sqrt (Host.reduceAdd (mulf (res_main_v230 L) (res_main_v230 L)) (constant S_ .f32 0x00000000#32) reducesTo_S16384x100_S_d0_1 h_S_))) (Host.sqrt (Host.reduceAdd (mulf (res_main_v234 L) (res_main_v234 L)) (constant S_ .f32 0x00000000#32) reducesTo_S16384x100_S_d0_1 h_S_))) (Host.sqrt (Host.reduceAdd (mulf (res_main_v242 L) (res_main_v242 L)) (constant S_ .f32 0x00000000#32) reducesTo_S5x100_S_d0_1 h_S_))))

theorem add_ideal (x y : EReal) : FloatOps.addf (F := Ideal) (φ := .f32) x y = x + y := rfl
theorem mul_ideal (x y : EReal) : FloatOps.mulf (F := Ideal) (φ := .f32) x y = x * y := rfl

theorem zero_bits : FloatOps.ofBits (F := Ideal) .f32 0x00000000#32 = (0 : EReal) := by
  rw [Ideal.ofBits_def]; simp [Ideal.ofBits, Ideal.ieee]

set_option maxHeartbeats 1600000 in
/-- It is the loss. -/
theorem result_eq {D : Data} {L : Valuation τ sig (Elt Ideal)} (H : Holds D L) : result L ix0 = D.loss := by
  unfold result
  rw [means, means_head]
  simp only [addf_apply, mulf_apply, constant_apply]
  rw [mean0 H, mean1 H, mean2 H, mean3 H, mean4 H, mean5 H, mean6 H, mean7 H]
  simp only [norm_batch' D 0 _ (head0 H), norm_batch' D 1 _ (tail0 H), norm_five' D 0 _ (neg0 H), norm_batch' D 0 _ (head1 H), norm_batch' D 2 _ (tail1 H), norm_five' D 1 _ (neg1 H), norm_batch' D 1 _ (head2 H), norm_batch' D 2 _ (tail2 H), norm_five' D 2 _ (neg2 H), norm_batch' D 1 _ (head3 H), norm_batch' D 3 _ (tail3 H), norm_five' D 3 _ (neg3 H), norm_batch' D 1 _ (head4 H), norm_batch' D 4 _ (tail4 H), norm_five' D 4 _ (neg4 H), norm_batch' D 1 _ (head5 H), norm_batch' D 5 _ (tail5 H), norm_five' D 5 _ (neg5 H), norm_batch' D 1 _ (head6 H), norm_batch' D 6 _ (tail6 H), norm_five' D 6 _ (neg6 H), norm_batch' D 1 _ (head7 H), norm_batch' D 7 _ (tail7 H), norm_five' D 7 _ (neg7 H), zero_bits]
  unfold Data.loss
  simp only [Ideal.ofBits_def, add_ideal, mul_ideal, zero_add]

end Cert.ReferenceIdeal.Hand

end
-- ==== Proof.lean ====
module

public import proofs.«01_k».proof.Defs
public import proofs.«01_k».proof.Proof.Kernel.Frame
public import proofs.«01_k».proof.Proof.KernelIdeal.Frame
public import proofs.«01_k».proof.Proof.KernelIdeal.Value
public import proofs.«01_k».proof.Proof.InRange
public import proofs.«01_k».proof.Proof.Reference
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem Cert.Model

/-- The kernel's frame. -/
theorem frame_kernel : Cert.quiescent_Kernel (hKernel := Cert.Kernel.Gen.facts) := fun m ρ _ => Cert.Kernel.Hand.frame m ρ

/-- The idealized kernel's frame, -/
theorem frame_ideal : Cert.quiescent_KernelIdeal (hKernelIdeal := Cert.KernelIdeal.Gen.facts) := fun m ρ _ =>
  Cert.KernelIdeal.Hand.frame m ρ

/-- and in range. -/
theorem frame_ideal_in_range : Cert.quiescent_KernelIdeal_pre_in_range (hKernelIdeal := Cert.KernelIdeal.Gen.facts)
    (hPre_in_range := Cert.Pre_in_range.facts) := fun m ρ _ => Cert.KernelIdeal.Hand.frame m ρ

/-- The reference's frame: it has no semaphore; -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and in range. -/
theorem frame_reference_in_range : Cert.quiescent_ReferenceIdeal_pre_in_range (hReferenceIdeal := Cert.ReferenceIdeal.Gen.facts)
    (hPre_in_range := Cert.Pre_in_range.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

section
variable {m : (ℓ : Loc Cert.KernelIdeal.nD Cert.KernelIdeal.τ Cert.KernelIdeal.sig) → Buf (Elt Ideal) ℓ}
variable (h : Cert.Pre_KernelIdeal_in_range (hPre_in_range := Cert.Pre_in_range.facts) m) (c : Dev Cert.KernelIdeal.nD)
include h

/-- In range, the indices are below a thousand -/
theorem below : Cert.KernelIdeal.Hand.Below m c where
  batch b g := haveI := Cert.Pre_in_range.facts; Cert.Pre_in_range.batch_index (h c).1 b g
  negs i k := haveI := Cert.Pre_in_range.facts; Cert.Pre_in_range.negs_index (h c).2.1 i k

/-- and the embeddings of the tails finite. -/
theorem finite : Cert.KernelIdeal.Hand.IsFinite (Cert.KernelIdeal.Hand.held m c) where
  tab s k d hs := by
    have h := (h c).2.2
    match s with
    | 0 => exact absurd rfl hs
    | 1 => exact Cert.Pre_in_range.finite_rows (by decide) _ _ _ h.1 k d
    | 2 => exact Cert.Pre_in_range.finite_rows (by decide) _ _ _ h.2.1 k d
    | 3 => exact Cert.Pre_in_range.finite_rows (by decide) _ _ _ h.2.2.1 k d
    | 4 => exact Cert.Pre_in_range.finite_rows (by decide) _ _ _ h.2.2.2.1 k d
    | 5 => exact Cert.Pre_in_range.finite_rows (by decide) _ _ _ h.2.2.2.2.1 k d
  rel i d := Cert.Pre_in_range.finite_all _ _ (h c).2.2.2.2.2.2.2 i d

end

/-- In range, the idealized kernel's result is the reference's. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.facts) := fun m g m' g' h hm => by
  refine ⟨fun c _ => (Cert.KernelIdeal.Hand.held m c).loss, Cert.KernelIdeal.Hand.run_loss m g (below h) (finite h), ?_⟩
  refine (θ_run Cert.ReferenceIdeal.defs _ _).mono (fun r hr c => ⟨(hr c).1.trans ?_, (hr c).2⟩) (Cert.ReferenceIdeal.Value.run (F := Ideal) m' g')
  obtain ⟨e0, e1, e2, e3, e4, e5, e6, e7, e8, e9, e10, e11, e12, e13, e14, e15, e16⟩ := hm c
  have H : Cert.ReferenceIdeal.Hand.Holds (Cert.KernelIdeal.Hand.held m c) (StableHlo.launchContents m' c) :=
    { h0 := fun b g => (congrFun e0 (ix2 b g)).trans ((below h c).batch b g)
      h1 := fun i k => (congrFun e1 (ix2 i k)).trans ((below h c).negs i k)
      h2 := fun k d => congrFun e2 _
      h3 := fun k d => congrFun e3 _
      h4 := fun k d => congrFun e4 _
      h5 := fun k d => congrFun e5 _
      h6 := fun k d => congrFun e6 _
      h7 := fun k d => congrFun e7 _
      h8 := fun i d => congrFun e8 _
      h9 := fun k => congrFun e9 _
      h10 := fun k => congrFun e10 _
      h11 := fun k => congrFun e11 _
      h12 := fun k => congrFun e12 _
      h13 := fun k => congrFun e13 _
      h14 := fun k => congrFun e14 _
      h15 := fun k => congrFun e15 _
      h16 := fun k => congrFun e16 _ }
  exact funext fun j => (congrArg (Cert.ReferenceIdeal.Hand.result (StableHlo.launchContents m' c)) (ix0_eta j).symm).trans
    (Cert.ReferenceIdeal.Hand.result_eq H)

theorem claim : Cert.Claim :=
  ⟨Cert.Kernel.Gen.facts, Cert.KernelIdeal.Gen.facts, Cert.ReferenceIdeal.Gen.facts, Cert.Pre_in_range.facts,
    frame_kernel, frame_ideal, frame_ideal_in_range, frame_reference, frame_reference_in_range, trivial, algebraic⟩

end Cert.Proof

end
